-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)) (v6 : (c : Dev Cert.KernelIdeal.nD) → Buf (Elt Ideal) ((c.tc : Thread Cert.KernelIdeal.nD Cert.KernelIdeal.τ).loc Cert.KernelIdeal.main_v7_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_v7_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v7_2) = v2 c
          ∧ r.2.mem ((c.tc : Thread Cert.ReferenceIdeal.nD Cert.ReferenceIdeal.τ).loc Cert.ReferenceIdeal.main_v7_3) = v3 c
          ∧ r.2.mem ((c.tc : Thread Cert.ReferenceIdeal.nD Cert.ReferenceIdeal.τ).loc Cert.ReferenceIdeal.main_v7_4) = v4 c
          ∧ r.2.mem ((c.tc : Thread Cert.ReferenceIdeal.nD Cert.ReferenceIdeal.τ).loc Cert.ReferenceIdeal.main_v7_5) = v5 c
          ∧ r.2.mem ((c.tc : Thread Cert.ReferenceIdeal.nD Cert.ReferenceIdeal.τ).loc Cert.ReferenceIdeal.main_v7_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x2048 : Shape := ⟨3, ![1, 256, 2048]⟩
abbrev S2048 : Shape := ⟨1, ![2048]⟩
abbrev S2048x8192 : Shape := ⟨2, ![2048, 8192]⟩
abbrev S8192x2048 : Shape := ⟨2, ![8192, 2048]⟩
abbrev S8192 : Shape := ⟨1, ![8192]⟩
abbrev S_ : Shape := ⟨0, ![]⟩
abbrev S256x2048 : Shape := ⟨2, ![256, 2048]⟩
abbrev S1x2048 : Shape := ⟨2, ![1, 2048]⟩
abbrev S1x8192 : Shape := ⟨2, ![1, 8192]⟩
abbrev S1x1 : Shape := ⟨2, ![1, 1]⟩
abbrev S256x8192 : Shape := ⟨2, ![256, 8192]⟩
abbrev S2048x512 : Shape := ⟨2, ![2048, 512]⟩
abbrev S512x2048 : Shape := ⟨2, ![512, 2048]⟩
abbrev S1x512 : Shape := ⟨2, ![1, 512]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S512x256 : Shape := ⟨2, ![512, 256]⟩
abbrev S1x256 : Shape := ⟨2, ![1, 256]⟩

abbrev nBuf : Space → Nat
  | .hbm => 24
  | .vmem => 27
  | .smem => 2
  | _ => 0

abbrev bufTy : (tb : Table) → Fin (tcTables nBuf tb) → BufTy
  | .hbm, ⟨0, _⟩ => ⟨S1x256x2048, .bf16⟩
  | .hbm, ⟨1, _⟩ => ⟨S2048, .f32⟩
  | .hbm, ⟨2, _⟩ => ⟨S2048x8192, .bf16⟩
  | .hbm, ⟨3, _⟩ => ⟨S2048x8192, .bf16⟩
  | .hbm, ⟨4, _⟩ => ⟨S8192x2048, .bf16⟩
  | .hbm, ⟨5, _⟩ => ⟨S8192, .f32⟩
  | .hbm, ⟨6, _⟩ => ⟨S8192, .f32⟩
  | .hbm, ⟨7, _⟩ => ⟨S2048, .f32⟩
  | .hbm, ⟨8, _⟩ => ⟨S_, .f32⟩
  | .hbm, ⟨9, _⟩ => ⟨S_, .f32⟩
  | .hbm, ⟨10, _⟩ => ⟨S256x2048, .bf16⟩
  | .hbm, ⟨11, _⟩ => ⟨S1x2048, .f32⟩
  | .hbm, ⟨12, _⟩ => ⟨S1x8192, .f32⟩
  | .hbm, ⟨13, _⟩ => ⟨S1x8192, .f32⟩
  | .hbm, ⟨14, _⟩ => ⟨S1x2048, .f32⟩
  | .hbm, ⟨15, _⟩ => ⟨S1x1, .f32⟩
  | .hbm, ⟨16, _⟩ => ⟨S1x1, .f32⟩
  | .hbm, ⟨17, _⟩ => ⟨S256x2048, .bf16⟩
  | .hbm, ⟨18, _⟩ => ⟨S256x8192, .f32⟩
  | .hbm, ⟨19, _⟩ => ⟨S256x2048, .i8⟩
  | .hbm, ⟨20, _⟩ => ⟨S2048x8192, .i8⟩
  | .hbm, ⟨21, _⟩ => ⟨S2048x8192, .i8⟩
  | .hbm, ⟨22, _⟩ => ⟨S256x8192, .i8⟩
  | .hbm, ⟨23, _⟩ => ⟨S8192x2048, .i8⟩
  | .local _ .vmem, ⟨0, _⟩ => ⟨S256x2048, .bf16⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x2048, .f32⟩
  | .local _ .vmem, ⟨13, _⟩ => ⟨S256x2048, .bf16⟩
  | .local _ .vmem, ⟨14, _⟩ => ⟨S256x512, .f32⟩
  | .local _ .vmem, ⟨15, _⟩ => ⟨S256x512, .f32⟩
  | .local _ .vmem, ⟨16, _⟩ => ⟨S256x2048, .i8⟩
  | .local _ .vmem, ⟨17, _⟩ => ⟨S2048x512, .i8⟩
  | .local _ .vmem, ⟨18, _⟩ => ⟨S2048x512, .i8⟩
  | .local _ .vmem, ⟨19, _⟩ => ⟨S2048x512, .i8⟩
  | .local _ .vmem, ⟨20, _⟩ => ⟨S2048x512, .i8⟩
  | .local _ .vmem, ⟨21, _⟩ => ⟨S256x512, .i8⟩
  | .local _ .vmem, ⟨22, _⟩ => ⟨S256x512, .i8⟩
  | .local _ .vmem, ⟨23, _⟩ => ⟨S512x2048, .i8⟩
  | .local _ .vmem, ⟨24, _⟩ => ⟨S512x2048, .i8⟩
  | .local _ .vmem, ⟨25, _⟩ => ⟨S256x2048, .bf16⟩
  | .local _ .vmem, ⟨26, _⟩ => ⟨S256x2048, .f32⟩
  | .local _ .smem, ⟨0, _⟩ => ⟨S1x1, .f32⟩
  | .local _ .smem, ⟨1, _⟩ => ⟨S1x1, .f32⟩
  | _, _ => ⟨S1x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v7_5 : Ref sig .tc := ⟨.hbm, 22, rfl⟩
abbrev main_v7_6 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_scratch1 : Ref sig .tc := ⟨.vmem, 26, rfl⟩
abbrev cc0_stg8_0 : Ref sig .tc := ⟨.smem, 0, rfl⟩
abbrev cc0_stg9_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v479 : BitVec 1 := Scalar.cmpi .eq arg0 c15_i32
  let v480 : BitVec 32 := Scalar.extui v479
  let c0_i32_250 : BitVec 32 := 0#32
  let v481 : BitVec 1 := Scalar.cmpi .ne v480 c0_i32_250
  v481

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_3 : BitVec 32 := 0#32
  let v4 : BitVec 1 := Scalar.cmpi .ne v3 c0_i32_3
  v4

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S256x2048 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x512 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x512 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S1x256x2048 : Shape := ⟨3, ![1, 256, 2048]⟩
abbrev S2048 : Shape := ⟨1, ![2048]⟩
abbrev S2048x8192 : Shape := ⟨2, ![2048, 8192]⟩
abbrev S8192x2048 : Shape := ⟨2, ![8192, 2048]⟩
abbrev S8192 : Shape := ⟨1, ![8192]⟩
abbrev S_ : Shape := ⟨0, ![]⟩
abbrev S256x2048 : Shape := ⟨2, ![256, 2048]⟩
abbrev S1x2048 : Shape := ⟨2, ![1, 2048]⟩
abbrev S1x8192 : Shape := ⟨2, ![1, 8192]⟩
abbrev S1x1 : Shape := ⟨2, ![1, 1]⟩
abbrev S256x8192 : Shape := ⟨2, ![256, 8192]⟩
abbrev S256 : Shape := ⟨1, ![256]⟩
abbrev S256x1 : Shape := ⟨2, ![256, 1]⟩

abbrev nBuf : Space → Nat
  | .hbm => 24
  | .vmem => 15
  | .smem => 2
  | _ => 0

abbrev bufTy : (tb : Table) → Fin (tcTables nBuf tb) → BufTy
  | .hbm, ⟨0, _⟩ => ⟨S1x256x2048, .bf16⟩
  | .hbm, ⟨1, _⟩ => ⟨S2048, .f32⟩
  | .hbm, ⟨2, _⟩ => ⟨S2048x8192, .bf16⟩
  | .hbm, ⟨3, _⟩ => ⟨S2048x8192, .bf16⟩
  | .hbm, ⟨4, _⟩ => ⟨S8192x2048, .bf16⟩
  | .hbm, ⟨5, _⟩ => ⟨S8192, .f32⟩
  | .hbm, ⟨6, _⟩ => ⟨S8192, .f32⟩
  | .hbm, ⟨7, _⟩ => ⟨S2048, .f32⟩
  | .hbm, ⟨8, _⟩ => ⟨S_, .f32⟩
  | .hbm, ⟨9, _⟩ => ⟨S_, .f32⟩
  | .hbm, ⟨10, _⟩ => ⟨S256x2048, .bf16⟩
  | .hbm, ⟨11, _⟩ => ⟨S1x2048, .f32⟩
  | .hbm, ⟨12, _⟩ => ⟨S1x8192, .f32⟩
  | .hbm, ⟨13, _⟩ => ⟨S1x8192, .f32⟩
  | .hbm, ⟨14, _⟩ => ⟨S1x2048, .f32⟩
  | .hbm, ⟨15, _⟩ => ⟨S1x1, .f32⟩
  | .hbm, ⟨16, _⟩ => ⟨S1x1, .f32⟩
  | .hbm, ⟨17, _⟩ => ⟨S256x2048, .bf16⟩
  | .hbm, ⟨18, _⟩ => ⟨S256x8192, .f32⟩
  | .hbm, ⟨19, _⟩ => ⟨S256x2048, .i8⟩
  | .hbm, ⟨20, _⟩ => ⟨S2048x8192, .i8⟩
  | .hbm, ⟨21, _⟩ => ⟨S2048x8192, .i8⟩
  | .hbm, ⟨22, _⟩ => ⟨S256x8192, .i8⟩
  | .hbm, ⟨23, _⟩ => ⟨S8192x2048, .i8⟩
  | .local _ .vmem, ⟨0, _⟩ => ⟨S256x2048, .bf16⟩
  | .local _ .vmem, ⟨1, _⟩ => ⟨S1x2048, .f32⟩
  | .local _ .vmem, ⟨2, _⟩ => ⟨S2048x8192, .bf16⟩
  | .local _ .vmem, ⟨3, _⟩ => ⟨S2048x8192, .bf16⟩
  | .local _ .vmem, ⟨4, _⟩ => ⟨S8192x2048, .bf16⟩
  | .local _ .vmem, ⟨5, _⟩ => ⟨S1x8192, .f32⟩
  | .local _ .vmem, ⟨6, _⟩ => ⟨S1x8192, .f32⟩
  | .local _ .vmem, ⟨7, _⟩ => ⟨S1x2048, .f32⟩
  | .local _ .vmem, ⟨8, _⟩ => ⟨S256x2048, .bf16⟩
  | .local _ .vmem, ⟨9, _⟩ => ⟨S256x8192, .f32⟩
  | .local _ .vmem, ⟨10, _⟩ => ⟨S256x2048, .i8⟩
  | .local _ .vmem, ⟨11, _⟩ => ⟨S2048x8192, .i8⟩
  | .local _ .vmem, ⟨12, _⟩ => ⟨S2048x8192, .i8⟩
  | .local _ .vmem, ⟨13, _⟩ => ⟨S256x8192, .i8⟩
  | .local _ .vmem, ⟨14, _⟩ => ⟨S8192x2048, .i8⟩
  | .local _ .smem, ⟨0, _⟩ => ⟨S1x1, .f32⟩
  | .local _ .smem, ⟨1, _⟩ => ⟨S1x1, .f32⟩
  | _, _ => ⟨S1x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v7_5 : Ref sig .tc := ⟨.hbm, 22, rfl⟩
abbrev main_v7_6 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg10_0 : Ref sig .tc := ⟨.vmem, 8, rfl⟩
abbrev cc0_stg11_0 : Ref sig .tc := ⟨.vmem, 9, rfl⟩
abbrev cc0_stg12_0 : Ref sig .tc := ⟨.vmem, 10, rfl⟩
abbrev cc0_stg13_0 : Ref sig .tc := ⟨.vmem, 11, rfl⟩
abbrev cc0_stg14_0 : Ref sig .tc := ⟨.vmem, 12, rfl⟩
abbrev cc0_stg15_0 : Ref sig .tc := ⟨.vmem, 13, rfl⟩
abbrev cc0_stg16_0 : Ref sig .tc := ⟨.vmem, 14, rfl⟩
abbrev cc0_stg8_0 : Ref sig .tc := ⟨.smem, 0, rfl⟩
abbrev cc0_stg9_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x8192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x2048 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x8192 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2048x8192 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256x8192 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8192x2048 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.Base.Runs.lean ====
/- What the runs of the kernel as written share: its unchanged arguments, the two branch conditions in closed form, the staging and scratch memrefs. -/
module

public import proofs.«01_k».proof.Proof.Gen.Kernel.Frame
public import proofs.«01_k».proof.Proof.Gen.Kernel.Skeleton
public import Idealize.ShloMosaic.Lib.Ring
public import Idealize.ShloMosaic.Lib.WordCmp

@[expose] public section

-- membership in a rectangle of production extents (`View.cover_of_tiled`): the elaborator's structural look
-- recurses once per coordinate of the long axes
set_option maxRecDepth 16384

noncomputable section

namespace Cert.Kernel.Base

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .smem S1x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x2048 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x2048 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2048x512 .i8 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S2048x512 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x512 .i8 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S512x2048 .i8 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S256x2048 .bf16 := Memref.whole cc0_scratch0
abbrev scM0_1 : Memref sig .tc .vmem S256x2048 .f32 := Memref.whole cc0_scratch1
/-- The scratch `arg18` the kernel carries between points, as a view: what it holds is stated through it. -/
abbrev VS0_0 : View sig .tc .vmem S256x2048 .bf16 := scM0_0.view
/-- The scratch `arg19` the kernel carries between points, as a view: what it holds is stated through it. -/
abbrev VS0_1 : View sig .tc .vmem S256x2048 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Base

end
-- ==== Proof.Base.RunA.lean ====
/- The body of the kernel as written, run at the first grid point. -/
module

public import proofs.«01_k».proof.Proof.Base.Runs

@[expose] public section

-- membership in a rectangle of production extents (`View.cover_of_tiled`): the elaborator's structural look
-- recurses once per coordinate of the long axes
set_option maxRecDepth 16384

noncomputable section

namespace Cert.Kernel.Base

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10, 11, 12, 13, 14, 15, 16) at anything, handed back at some contents nothing names. -/
noncomputable def kernelRun0_A (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .smem S1x1 .f32) (harg9 : arg9.IsWhole) (arg10 : Memref sig .tc .smem S1x1 .f32) (harg10 : arg10.IsWhole) (arg11 : Memref sig .tc .vmem S256x2048 .bf16) (harg11 : arg11.IsWhole) (arg12 : Memref sig .tc .vmem S256x512 .f32) (harg12 : arg12.IsWhole) (arg13 : Memref sig .tc .vmem S256x2048 .i8) (harg13 : arg13.IsWhole) (arg14 : Memref sig .tc .vmem S2048x512 .i8) (harg14 : arg14.IsWhole) (arg15 : Memref sig .tc .vmem S2048x512 .i8) (harg15 : arg15.IsWhole) (arg16 : Memref sig .tc .vmem S256x512 .i8) (harg16 : arg16.IsWhole) (arg17 : Memref sig .tc .vmem S512x2048 .i8) (harg17 : arg17.IsWhole) (arg18 : Memref sig .tc .vmem S256x2048 .bf16) (harg18 : arg18.IsWhole) (arg19 : Memref sig .tc .vmem S256x2048 .f32) (harg19 : arg19.IsWhole) (hc0 : cond0_0 i) (hc1 : ¬cond0_1 i)
    (x0 : Vec F S256x2048 .bf16) (x1 : Vec F S1x2048 .f32) (x2 : Vec F S2048x512 .bf16) (x3 : Vec F S2048x512 .bf16) (x4 : Vec F S512x2048 .bf16) (x5 : Vec F S1x512 .f32) (x6 : Vec F S1x512 .f32) (x7 : Vec F S1x2048 .f32) (x8 : Vec F S1x1 .f32) (x9 : Vec F S1x1 .f32) :
    Σ' (LS0 : List (View.Piece (Elt F) S256x2048 .bf16)), { LS1 : List (View.Piece (Elt F) S256x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0_lsq_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc0_lsq_mlp_eq_skeleton]; unfold cc0_lsq_mlp_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]; · iexists _; iexact HS0
    iexists _; iexact HS1

end Cert.Kernel.Base

end
-- ==== Proof.Base.RunB.lean ====
/- The body of the kernel as written, run at a middle grid point. -/
module

public import proofs.«01_k».proof.Proof.Base.RunA

@[expose] public section

-- membership in a rectangle of production extents (`View.cover_of_tiled`): the elaborator's structural look
-- recurses once per coordinate of the long axes
set_option maxRecDepth 16384

noncomputable section

namespace Cert.Kernel.Base

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 14: 14 of 16), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10, 11, 12, 13, 14, 15, 16) at anything, handed back at some contents nothing names. -/
noncomputable def kernelRun0_B (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .smem S1x1 .f32) (harg9 : arg9.IsWhole) (arg10 : Memref sig .tc .smem S1x1 .f32) (harg10 : arg10.IsWhole) (arg11 : Memref sig .tc .vmem S256x2048 .bf16) (harg11 : arg11.IsWhole) (arg12 : Memref sig .tc .vmem S256x512 .f32) (harg12 : arg12.IsWhole) (arg13 : Memref sig .tc .vmem S256x2048 .i8) (harg13 : arg13.IsWhole) (arg14 : Memref sig .tc .vmem S2048x512 .i8) (harg14 : arg14.IsWhole) (arg15 : Memref sig .tc .vmem S2048x512 .i8) (harg15 : arg15.IsWhole) (arg16 : Memref sig .tc .vmem S256x512 .i8) (harg16 : arg16.IsWhole) (arg17 : Memref sig .tc .vmem S512x2048 .i8) (harg17 : arg17.IsWhole) (arg18 : Memref sig .tc .vmem S256x2048 .bf16) (harg18 : arg18.IsWhole) (arg19 : Memref sig .tc .vmem S256x2048 .f32) (harg19 : arg19.IsWhole) (hc0 : ¬cond0_0 i) (hc1 : ¬cond0_1 i)
    (x0 : Vec F S256x2048 .bf16) (x1 : Vec F S1x2048 .f32) (x2 : Vec F S2048x512 .bf16) (x3 : Vec F S2048x512 .bf16) (x4 : Vec F S512x2048 .bf16) (x5 : Vec F S1x512 .f32) (x6 : Vec F S1x512 .f32) (x7 : Vec F S1x2048 .f32) (x8 : Vec F S1x1 .f32) (x9 : Vec F S1x1 .f32) (xs0 : Vec F S256x2048 .bf16) (xs1 : Vec F S256x2048 .f32) :
    Σ' (LS0 : List (View.Piece (Elt F) S256x2048 .bf16)), { LS1 : List (View.Piece (Elt F) S256x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs0 ∗ owns (c : Thread nD τ) arg19 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs0 ∗ (∃ f, arg19.view.loc (c : Thread nD τ) ↦[arg19.view.set]{fullShare} arg19.view.writes (Elt F) f LS1)) -∗ K ⟨⟩))
          ⊢ wp frame (wpE (defs₀ (F := F)) Variants.none c none) E (cc0_lsq_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], ?_, fun E K => ?run⟩
  case run =>
    simp only [cc0_lsq_mlp_eq_skeleton]; unfold cc0_lsq_mlp_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg18.eq_unread hfs0; obtain rfl := harg19.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]
    · iexists _; isplitr; · ipureintro; exact harg18.read_unread _
      iexact HS0
    iexists _; iexact HS1

end Cert.Kernel.Base

end
-- ==== Proof.Base.RunC.lean ====
/- The body of the kernel as written, run at the last grid point. -/
module

public import proofs.«01_k».proof.Proof.Base.RunB

@[expose] public section

-- membership in a rectangle of production extents (`View.cover_of_tiled`): the elaborator's structural look
-- recurses once per coordinate of the long axes
set_option maxRecDepth 16384

noncomputable section

namespace Cert.Kernel.Base

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10, 11, 12, 13, 14, 15, 16) at anything, handed back at some contents nothing names. -/
noncomputable def kernelRun0_C (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .smem S1x1 .f32) (harg9 : arg9.IsWhole) (arg10 : Memref sig .tc .smem S1x1 .f32) (harg10 : arg10.IsWhole) (arg11 : Memref sig .tc .vmem S256x2048 .bf16) (harg11 : arg11.IsWhole) (arg12 : Memref sig .tc .vmem S256x512 .f32) (harg12 : arg12.IsWhole) (arg13 : Memref sig .tc .vmem S256x2048 .i8) (harg13 : arg13.IsWhole) (arg14 : Memref sig .tc .vmem S2048x512 .i8) (harg14 : arg14.IsWhole) (arg15 : Memref sig .tc .vmem S2048x512 .i8) (harg15 : arg15.IsWhole) (arg16 : Memref sig .tc .vmem S256x512 .i8) (harg16 : arg16.IsWhole) (arg17 : Memref sig .tc .vmem S512x2048 .i8) (harg17 : arg17.IsWhole) (arg18 : Memref sig .tc .vmem S256x2048 .bf16) (harg18 : arg18.IsWhole) (arg19 : Memref sig .tc .vmem S256x2048 .f32) (harg19 : arg19.IsWhole) (hc0 : ¬cond0_0 i) (hc1 : cond0_1 i)
    (x0 : Vec F S256x2048 .bf16) (x1 : Vec F S1x2048 .f32) (x2 : Vec F S2048x512 .bf16) (x3 : Vec F S2048x512 .bf16) (x4 : Vec F S512x2048 .bf16) (x5 : Vec F S1x512 .f32) (x6 : Vec F S1x512 .f32) (x7 : Vec F S1x2048 .f32) (x8 : Vec F S1x1 .f32) (x9 : Vec F S1x1 .f32) (xs0 : Vec F S256x2048 .bf16) (xs1 : Vec F S256x2048 .f32) :
    Σ' (LS0 : List (View.Piece (Elt F) S256x2048 .bf16)), { LS1 : List (View.Piece (Elt F) S256x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs0 ∗ owns (c : Thread nD τ) arg19 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs0 ∗ (∃ f, arg19.view.loc (c : Thread nD τ) ↦[arg19.view.set]{fullShare} arg19.view.writes (Elt F) f LS1)) -∗ K ⟨⟩))
          ⊢ wp frame (wpE (defs₀ (F := F)) Variants.none c none) E (cc0_lsq_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], ?_, fun E K => ?run⟩
  case run =>
    simp only [cc0_lsq_mlp_eq_skeleton]; unfold cc0_lsq_mlp_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg18.eq_unread hfs0; obtain rfl := harg19.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]
    · iexists _; isplitr; · ipureintro; exact harg18.read_unread _
      iexact HS0
    iexists _; iexact HS1

end Cert.Kernel.Base

end
-- ==== Proof.Base.Frame.lean ====
/- The frame of the kernel as written, at any values: it ends with its arguments unchanged and every semaphore at zero. Nothing is stated of what its results hold. -/
module

public import proofs.«01_k».proof.Proof.Base.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Base

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg18`, which the kernel carries between points, cover it: 1 piece of `S256x2048` tiling it (Lib/Ring.lean `Piece.tiledL`). -/
theorem scover0_A_0 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .smem S1x1 .f32) (harg9 : arg9.IsWhole) (arg10 : Memref sig .tc .smem S1x1 .f32) (harg10 : arg10.IsWhole) (arg11 : Memref sig .tc .vmem S256x2048 .bf16) (harg11 : arg11.IsWhole) (arg12 : Memref sig .tc .vmem S256x512 .f32) (harg12 : arg12.IsWhole) (arg13 : Memref sig .tc .vmem S256x2048 .i8) (harg13 : arg13.IsWhole) (arg14 : Memref sig .tc .vmem S2048x512 .i8) (harg14 : arg14.IsWhole) (arg15 : Memref sig .tc .vmem S2048x512 .i8) (harg15 : arg15.IsWhole) (arg16 : Memref sig .tc .vmem S256x512 .i8) (harg16 : arg16.IsWhole) (arg17 : Memref sig .tc .vmem S512x2048 .i8) (harg17 : arg17.IsWhole) (arg18 : Memref sig .tc .vmem S256x2048 .bf16) (harg18 : arg18.IsWhole) (arg19 : Memref sig .tc .vmem S256x2048 .f32) (harg19 : arg19.IsWhole) (hc0 : cond0_0 i) (hc1 : ¬cond0_1 i)
    (x0 : Vec F S256x2048 .bf16) (x1 : Vec F S1x2048 .f32) (x2 : Vec F S2048x512 .bf16) (x3 : Vec F S2048x512 .bf16) (x4 : Vec F S512x2048 .bf16) (x5 : Vec F S1x512 .f32) (x6 : Vec F S1x512 .f32) (x7 : Vec F S1x2048 .f32) (x8 : Vec F S1x1 .f32) (x9 : Vec F S1x1 .f32) (y : S256x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).1 S256x2048.size (by sl_kernel_rfl) y

/-- What case A leaves in scratch `arg18`: its pieces read back over junk. -/
def sout0_A_0 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .smem S1x1 .f32) (harg9 : arg9.IsWhole) (arg10 : Memref sig .tc .smem S1x1 .f32) (harg10 : arg10.IsWhole) (arg11 : Memref sig .tc .vmem S256x2048 .bf16) (harg11 : arg11.IsWhole) (arg12 : Memref sig .tc .vmem S256x512 .f32) (harg12 : arg12.IsWhole) (arg13 : Memref sig .tc .vmem S256x2048 .i8) (harg13 : arg13.IsWhole) (arg14 : Memref sig .tc .vmem S2048x512 .i8) (harg14 : arg14.IsWhole) (arg15 : Memref sig .tc .vmem S2048x512 .i8) (harg15 : arg15.IsWhole) (arg16 : Memref sig .tc .vmem S256x512 .i8) (harg16 : arg16.IsWhole) (arg17 : Memref sig .tc .vmem S512x2048 .i8) (harg17 : arg17.IsWhole) (arg18 : Memref sig .tc .vmem S256x2048 .bf16) (harg18 : arg18.IsWhole) (arg19 : Memref sig .tc .vmem S256x2048 .f32) (harg19 : arg19.IsWhole) (hc0 : cond0_0 i) (hc1 : ¬cond0_1 i)
    (x0 : Vec F S256x2048 .bf16) (x1 : Vec F S1x2048 .f32) (x2 : Vec F S2048x512 .bf16) (x3 : Vec F S2048x512 .bf16) (x4 : Vec F S512x2048 .bf16) (x5 : Vec F S1x512 .f32) (x6 : Vec F S1x512 .f32) (x7 : Vec F S1x2048 .f32) (x8 : Vec F S1x1 .f32) (x9 : Vec F S1x1 .f32) : Vec F S256x2048 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).1)

/-- Case A's pieces for scratch `arg19`, which the kernel carries between points, cover it: one of them a store of the WHOLE buffer (Lib/Ring.lean `sl_whole_mem`). -/
theorem scover0_A_1 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .smem S1x1 .f32) (harg9 : arg9.IsWhole) (arg10 : Memref sig .tc .smem S1x1 .f32) (harg10 : arg10.IsWhole) (arg11 : Memref sig .tc .vmem S256x2048 .bf16) (harg11 : arg11.IsWhole) (arg12 : Memref sig .tc .vmem S256x512 .f32) (harg12 : arg12.IsWhole) (arg13 : Memref sig .tc .vmem S256x2048 .i8) (harg13 : arg13.IsWhole) (arg14 : Memref sig .tc .vmem S2048x512 .i8) (harg14 : arg14.IsWhole) (arg15 : Memref sig .tc .vmem S2048x512 .i8) (harg15 : arg15.IsWhole) (arg16 : Memref sig .tc .vmem S256x512 .i8) (harg16 : arg16.IsWhole) (arg17 : Memref sig .tc .vmem S512x2048 .i8) (harg17 : arg17.IsWhole) (arg18 : Memref sig .tc .vmem S256x2048 .bf16) (harg18 : arg18.IsWhole) (arg19 : Memref sig .tc .vmem S256x2048 .f32) (harg19 : arg19.IsWhole) (hc0 : cond0_0 i) (hc1 : ¬cond0_1 i)
    (x0 : Vec F S256x2048 .bf16) (x1 : Vec F S1x2048 .f32) (x2 : Vec F S2048x512 .bf16) (x3 : Vec F S2048x512 .bf16) (x4 : Vec F S512x2048 .bf16) (x5 : Vec F S1x512 .f32) (x6 : Vec F S1x512 .f32) (x7 : Vec F S1x2048 .f32) (x8 : Vec F S1x1 .f32) (x9 : Vec F S1x1 .f32) (y : S256x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.1 (by sl_whole_mem) y

/-- What case A leaves in scratch `arg19`: its pieces read back over junk. -/
def sout0_A_1 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .smem S1x1 .f32) (harg9 : arg9.IsWhole) (arg10 : Memref sig .tc .smem S1x1 .f32) (harg10 : arg10.IsWhole) (arg11 : Memref sig .tc .vmem S256x2048 .bf16) (harg11 : arg11.IsWhole) (arg12 : Memref sig .tc .vmem S256x512 .f32) (harg12 : arg12.IsWhole) (arg13 : Memref sig .tc .vmem S256x2048 .i8) (harg13 : arg13.IsWhole) (arg14 : Memref sig .tc .vmem S2048x512 .i8) (harg14 : arg14.IsWhole) (arg15 : Memref sig .tc .vmem S2048x512 .i8) (harg15 : arg15.IsWhole) (arg16 : Memref sig .tc .vmem S256x512 .i8) (harg16 : arg16.IsWhole) (arg17 : Memref sig .tc .vmem S512x2048 .i8) (harg17 : arg17.IsWhole) (arg18 : Memref sig .tc .vmem S256x2048 .bf16) (harg18 : arg18.IsWhole) (arg19 : Memref sig .tc .vmem S256x2048 .f32) (harg19 : arg19.IsWhole) (hc0 : cond0_0 i) (hc1 : ¬cond0_1 i)
    (x0 : Vec F S256x2048 .bf16) (x1 : Vec F S1x2048 .f32) (x2 : Vec F S2048x512 .bf16) (x3 : Vec F S2048x512 .bf16) (x4 : Vec F S512x2048 .bf16) (x5 : Vec F S1x512 .f32) (x6 : Vec F S1x512 .f32) (x7 : Vec F S1x2048 .f32) (x8 : Vec F S1x1 .f32) (x9 : Vec F S1x1 .f32) : Vec F S256x2048 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.1)

/-- Case B stores nothing into scratch `arg18`: it holds what the point before left. -/
def sout0_B_0 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .smem S1x1 .f32) (harg9 : arg9.IsWhole) (arg10 : Memref sig .tc .smem S1x1 .f32) (harg10 : arg10.IsWhole) (arg11 : Memref sig .tc .vmem S256x2048 .bf16) (harg11 : arg11.IsWhole) (arg12 : Memref sig .tc .vmem S256x512 .f32) (harg12 : arg12.IsWhole) (arg13 : Memref sig .tc .vmem S256x2048 .i8) (harg13 : arg13.IsWhole) (arg14 : Memref sig .tc .vmem S2048x512 .i8) (harg14 : arg14.IsWhole) (arg15 : Memref sig .tc .vmem S2048x512 .i8) (harg15 : arg15.IsWhole) (arg16 : Memref sig .tc .vmem S256x512 .i8) (harg16 : arg16.IsWhole) (arg17 : Memref sig .tc .vmem S512x2048 .i8) (harg17 : arg17.IsWhole) (arg18 : Memref sig .tc .vmem S256x2048 .bf16) (harg18 : arg18.IsWhole) (arg19 : Memref sig .tc .vmem S256x2048 .f32) (harg19 : arg19.IsWhole) (hc0 : ¬cond0_0 i) (hc1 : ¬cond0_1 i)
    (x0 : Vec F S256x2048 .bf16) (x1 : Vec F S1x2048 .f32) (x2 : Vec F S2048x512 .bf16) (x3 : Vec F S2048x512 .bf16) (x4 : Vec F S512x2048 .bf16) (x5 : Vec F S1x512 .f32) (x6 : Vec F S1x512 .f32) (x7 : Vec F S1x2048 .f32) (x8 : Vec F S1x1 .f32) (x9 : Vec F S1x1 .f32) (xs0 : Vec F S256x2048 .bf16) (xs1 : Vec F S256x2048 .f32) : Vec F S256x2048 .bf16 := xs0

/-- Case B's pieces for scratch `arg19`, which the kernel carries between points, cover it: 8 pieces of `S256x256` tiling it (Lib/Ring.lean `Piece.tiledL`). -/
theorem scover0_B_1 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .smem S1x1 .f32) (harg9 : arg9.IsWhole) (arg10 : Memref sig .tc .smem S1x1 .f32) (harg10 : arg10.IsWhole) (arg11 : Memref sig .tc .vmem S256x2048 .bf16) (harg11 : arg11.IsWhole) (arg12 : Memref sig .tc .vmem S256x512 .f32) (harg12 : arg12.IsWhole) (arg13 : Memref sig .tc .vmem S256x2048 .i8) (harg13 : arg13.IsWhole) (arg14 : Memref sig .tc .vmem S2048x512 .i8) (harg14 : arg14.IsWhole) (arg15 : Memref sig .tc .vmem S2048x512 .i8) (harg15 : arg15.IsWhole) (arg16 : Memref sig .tc .vmem S256x512 .i8) (harg16 : arg16.IsWhole) (arg17 : Memref sig .tc .vmem S512x2048 .i8) (harg17 : arg17.IsWhole) (arg18 : Memref sig .tc .vmem S256x2048 .bf16) (harg18 : arg18.IsWhole) (arg19 : Memref sig .tc .vmem S256x2048 .f32) (harg19 : arg19.IsWhole) (hc0 : ¬cond0_0 i) (hc1 : ¬cond0_1 i)
    (x0 : Vec F S256x2048 .bf16) (x1 : Vec F S1x2048 .f32) (x2 : Vec F S2048x512 .bf16) (x3 : Vec F S2048x512 .bf16) (x4 : Vec F S512x2048 .bf16) (x5 : Vec F S1x512 .f32) (x6 : Vec F S1x512 .f32) (x7 : Vec F S1x2048 .f32) (x8 : Vec F S1x1 .f32) (x9 : Vec F S1x1 .f32) (xs0 : Vec F S256x2048 .bf16) (xs1 : Vec F S256x2048 .f32) (y : S256x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.1 S256x256.size (by sl_kernel_rfl) y

/-- What case B leaves in scratch `arg19`: its pieces read back over junk. -/
def sout0_B_1 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .smem S1x1 .f32) (harg9 : arg9.IsWhole) (arg10 : Memref sig .tc .smem S1x1 .f32) (harg10 : arg10.IsWhole) (arg11 : Memref sig .tc .vmem S256x2048 .bf16) (harg11 : arg11.IsWhole) (arg12 : Memref sig .tc .vmem S256x512 .f32) (harg12 : arg12.IsWhole) (arg13 : Memref sig .tc .vmem S256x2048 .i8) (harg13 : arg13.IsWhole) (arg14 : Memref sig .tc .vmem S2048x512 .i8) (harg14 : arg14.IsWhole) (arg15 : Memref sig .tc .vmem S2048x512 .i8) (harg15 : arg15.IsWhole) (arg16 : Memref sig .tc .vmem S256x512 .i8) (harg16 : arg16.IsWhole) (arg17 : Memref sig .tc .vmem S512x2048 .i8) (harg17 : arg17.IsWhole) (arg18 : Memref sig .tc .vmem S256x2048 .bf16) (harg18 : arg18.IsWhole) (arg19 : Memref sig .tc .vmem S256x2048 .f32) (harg19 : arg19.IsWhole) (hc0 : ¬cond0_0 i) (hc1 : ¬cond0_1 i)
    (x0 : Vec F S256x2048 .bf16) (x1 : Vec F S1x2048 .f32) (x2 : Vec F S2048x512 .bf16) (x3 : Vec F S2048x512 .bf16) (x4 : Vec F S512x2048 .bf16) (x5 : Vec F S1x512 .f32) (x6 : Vec F S1x512 .f32) (x7 : Vec F S1x2048 .f32) (x8 : Vec F S1x1 .f32) (x9 : Vec F S1x1 .f32) (xs0 : Vec F S256x2048 .bf16) (xs1 : Vec F S256x2048 .f32) : Vec F S256x2048 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.1)

/-- Case C stores nothing into scratch `arg18`: it holds what the point before left. -/
def sout0_C_0 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .smem S1x1 .f32) (harg9 : arg9.IsWhole) (arg10 : Memref sig .tc .smem S1x1 .f32) (harg10 : arg10.IsWhole) (arg11 : Memref sig .tc .vmem S256x2048 .bf16) (harg11 : arg11.IsWhole) (arg12 : Memref sig .tc .vmem S256x512 .f32) (harg12 : arg12.IsWhole) (arg13 : Memref sig .tc .vmem S256x2048 .i8) (harg13 : arg13.IsWhole) (arg14 : Memref sig .tc .vmem S2048x512 .i8) (harg14 : arg14.IsWhole) (arg15 : Memref sig .tc .vmem S2048x512 .i8) (harg15 : arg15.IsWhole) (arg16 : Memref sig .tc .vmem S256x512 .i8) (harg16 : arg16.IsWhole) (arg17 : Memref sig .tc .vmem S512x2048 .i8) (harg17 : arg17.IsWhole) (arg18 : Memref sig .tc .vmem S256x2048 .bf16) (harg18 : arg18.IsWhole) (arg19 : Memref sig .tc .vmem S256x2048 .f32) (harg19 : arg19.IsWhole) (hc0 : ¬cond0_0 i) (hc1 : cond0_1 i)
    (x0 : Vec F S256x2048 .bf16) (x1 : Vec F S1x2048 .f32) (x2 : Vec F S2048x512 .bf16) (x3 : Vec F S2048x512 .bf16) (x4 : Vec F S512x2048 .bf16) (x5 : Vec F S1x512 .f32) (x6 : Vec F S1x512 .f32) (x7 : Vec F S1x2048 .f32) (x8 : Vec F S1x1 .f32) (x9 : Vec F S1x1 .f32) (xs0 : Vec F S256x2048 .bf16) (xs1 : Vec F S256x2048 .f32) : Vec F S256x2048 .bf16 := xs0

/-- Case C's pieces for scratch `arg19`, which the kernel carries between points, cover it: 8 pieces of `S256x256` tiling it (Lib/Ring.lean `Piece.tiledL`). -/
theorem scover0_C_1 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .smem S1x1 .f32) (harg9 : arg9.IsWhole) (arg10 : Memref sig .tc .smem S1x1 .f32) (harg10 : arg10.IsWhole) (arg11 : Memref sig .tc .vmem S256x2048 .bf16) (harg11 : arg11.IsWhole) (arg12 : Memref sig .tc .vmem S256x512 .f32) (harg12 : arg12.IsWhole) (arg13 : Memref sig .tc .vmem S256x2048 .i8) (harg13 : arg13.IsWhole) (arg14 : Memref sig .tc .vmem S2048x512 .i8) (harg14 : arg14.IsWhole) (arg15 : Memref sig .tc .vmem S2048x512 .i8) (harg15 : arg15.IsWhole) (arg16 : Memref sig .tc .vmem S256x512 .i8) (harg16 : arg16.IsWhole) (arg17 : Memref sig .tc .vmem S512x2048 .i8) (harg17 : arg17.IsWhole) (arg18 : Memref sig .tc .vmem S256x2048 .bf16) (harg18 : arg18.IsWhole) (arg19 : Memref sig .tc .vmem S256x2048 .f32) (harg19 : arg19.IsWhole) (hc0 : ¬cond0_0 i) (hc1 : cond0_1 i)
    (x0 : Vec F S256x2048 .bf16) (x1 : Vec F S1x2048 .f32) (x2 : Vec F S2048x512 .bf16) (x3 : Vec F S2048x512 .bf16) (x4 : Vec F S512x2048 .bf16) (x5 : Vec F S1x512 .f32) (x6 : Vec F S1x512 .f32) (x7 : Vec F S1x2048 .f32) (x8 : Vec F S1x1 .f32) (x9 : Vec F S1x1 .f32) (xs0 : Vec F S256x2048 .bf16) (xs1 : Vec F S256x2048 .f32) (y : S256x2048.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.1 S256x256.size (by sl_kernel_rfl) y

/-- What case C leaves in scratch `arg19`: its pieces read back over junk. -/
def sout0_C_1 (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .smem S1x1 .f32) (harg9 : arg9.IsWhole) (arg10 : Memref sig .tc .smem S1x1 .f32) (harg10 : arg10.IsWhole) (arg11 : Memref sig .tc .vmem S256x2048 .bf16) (harg11 : arg11.IsWhole) (arg12 : Memref sig .tc .vmem S256x512 .f32) (harg12 : arg12.IsWhole) (arg13 : Memref sig .tc .vmem S256x2048 .i8) (harg13 : arg13.IsWhole) (arg14 : Memref sig .tc .vmem S2048x512 .i8) (harg14 : arg14.IsWhole) (arg15 : Memref sig .tc .vmem S2048x512 .i8) (harg15 : arg15.IsWhole) (arg16 : Memref sig .tc .vmem S256x512 .i8) (harg16 : arg16.IsWhole) (arg17 : Memref sig .tc .vmem S512x2048 .i8) (harg17 : arg17.IsWhole) (arg18 : Memref sig .tc .vmem S256x2048 .bf16) (harg18 : arg18.IsWhole) (arg19 : Memref sig .tc .vmem S256x2048 .f32) (harg19 : arg19.IsWhole) (hc0 : ¬cond0_0 i) (hc1 : cond0_1 i)
    (x0 : Vec F S256x2048 .bf16) (x1 : Vec F S1x2048 .f32) (x2 : Vec F S2048x512 .bf16) (x3 : Vec F S2048x512 .bf16) (x4 : Vec F S512x2048 .bf16) (x5 : Vec F S1x512 .f32) (x6 : Vec F S1x512 .f32) (x7 : Vec F S1x2048 .f32) (x8 : Vec F S1x1 .f32) (x9 : Vec F S1x1 .f32) (xs0 : Vec F S256x2048 .bf16) (xs1 : Vec F S256x2048 .f32) : Vec F S256x2048 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x2048 .bf16 × Vec F S256x2048 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
  | n + 1, hn =>
    if h0 : (n + 1) % 16 = 0 then
      if h1 : (n + 1) % 16 = 15 then
        False.elim (by have hN : n + 1 < 16 := lt_of_lt_of_eq hn (show cfg0.N = 16 from N_0); omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
    else
      if h1 : (n + 1) % 16 = 15 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 16 = 0) (h1 : ¬t.val % 16 = 15) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2)) ∗ (∃ r, prngReg c r)) := by
  cases n with
  | zero => exact absurd rfl hz
  | succ n => rfl

/-! ## The pipeline's proof data -/

/-- The output windows this certificate FORGETS (10, 11, 12, 13, 14, 15, 16): nothing reads what the kernel leaves in them, so nothing
    of it is named (Lib/Pipeline/Dat.lean `Dat.toRForget`). -/
def forgets0 : Fin 17 → Bool := fun w => w.val == 10 || w.val == 11 || w.val == 12 || w.val == 13 || w.val == 14 || w.val == 15 || w.val == 16

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      by_cases hz : t.val = 0
      · rw [PhiS_castSucc m c t, PhiS_zero m c _ _ hz, PhiA0_eq]
        rw [outsAt0_A m c t h0 h1]
        unfold sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun0_A c (grid0.coords t) _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [HS0]; · iexact HS0
        isplitl [HS1]; · iexact HS1
        iintro ⟨H0, H1, H2, H3, H4, H5, H6, H7, H8, H9, H10, H11, H12, H13, H14, H15, H16, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        iexact H16
      · exfalso; have hN : t.val < 16 := lt_of_lt_of_eq t.isLt (show cfg0.N = 16 from N_0); omega
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      by_cases hz : t.val = 0
      · exfalso; have hN : t.val < 16 := lt_of_lt_of_eq t.isLt (show cfg0.N = 16 from N_0); omega
      · rw [PhiS_castSucc m c t, PhiS_pos m c _ _ hz]
        rw [outsAt0_C m c t h0 h1]
        unfold sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun0_C c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) _ _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [HS0]; · iexact HS0
        isplitl [HS1]; · iexact HS1
        iintro ⟨H0, H1, H2, H3, H4, H5, H6, H7, H8, H9, H10, H11, H12, H13, H14, H15, H16, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        iexact H16
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        unfold sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun0_B c (grid0.coords t) _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) _ _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [HS0]; · iexact HS0
        isplitl [HS1]; · iexact HS1
        iintro ⟨H0, H1, H2, H3, H4, H5, H6, H7, H8, H9, H10, H11, H12, H13, H14, H15, H16, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        iexact H16

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 10, 11, 12, 13, 14, 15, 16) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  unchanged_of m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel.Base

end
-- ==== Proof.Body.Kit.lean ====
/- What the body's runs are stated over: its two branch conditions in closed form, where its windows are idle, the staging and scratch memrefs. -/
module

public import proofs.«01_k».proof.Proof.Gen.KernelIdeal.Frame
public import proofs.«01_k».proof.Proof.Gen.KernelIdeal.Skeleton
public import Idealize.ShloMosaic.Lib.Ring
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 11 is never idle (an output stored at every point, under no condition). -/
theorem liveAt0_11 : ∀ t : Fin cfg0.N, cfg0.idle 11 (grid0.coords t) = false := fun _ => rfl
/-- Window 13 is never idle (an output stored at every point, under no condition). -/
theorem liveAt0_13 : ∀ t : Fin cfg0.N, cfg0.idle 13 (grid0.coords t) = false := fun _ => rfl
/-- Window 14 is never idle (an output stored at every point, under no condition). -/
theorem liveAt0_14 : ∀ t : Fin cfg0.N, cfg0.idle 14 (grid0.coords t) = false := fun _ => rfl
/-- Window 15 is never idle (an output stored at every point, under no condition). -/
theorem liveAt0_15 : ∀ t : Fin cfg0.N, cfg0.idle 15 (grid0.coords t) = false := fun _ => rfl
/-- Window 16 is never idle (an output stored at every point, under no condition). -/
theorem liveAt0_16 : ∀ t : Fin cfg0.N, cfg0.idle 16 (grid0.coords t) = false := fun _ => rfl
/-- At the points of case A the printed configuration (`Cfg.idle`) calls output 10 idle: the case stores nothing into it. -/
theorem idleAt0_10_A : ∀ t : Fin cfg0.N, cond0_0 (grid0.coords t) → ¬cond0_1 (grid0.coords t) → cfg0.idle 10 (grid0.coords t) = true := by decide +kernel
/-- At the points of case A the pipeline does not write output 10's block back. -/
theorem noFlush0_10_A : ∀ t : Fin cfg0.N, cond0_0 (grid0.coords t) → ¬cond0_1 (grid0.coords t) → (cfg0.win 10).flush t = false := by decide +kernel
/-- At the points of case B the printed configuration (`Cfg.idle`) calls output 10 idle: the case stores nothing into it. -/
theorem idleAt0_10_B : ∀ t : Fin cfg0.N, ¬cond0_0 (grid0.coords t) → ¬cond0_1 (grid0.coords t) → cfg0.idle 10 (grid0.coords t) = true := by decide +kernel
/-- At the points of case B the pipeline does not write output 10's block back. -/
theorem noFlush0_10_B : ∀ t : Fin cfg0.N, ¬cond0_0 (grid0.coords t) → ¬cond0_1 (grid0.coords t) → (cfg0.win 10).flush t = false := by decide +kernel
/-- At the points of case C the printed configuration (`Cfg.idle`) calls output 10 live: the case stores into it. -/
theorem liveAt0_10_C : ∀ t : Fin cfg0.N, ¬cond0_0 (grid0.coords t) → cond0_1 (grid0.coords t) → cfg0.idle 10 (grid0.coords t) = false := by decide +kernel
/-- At the points of case A the printed configuration (`Cfg.idle`) calls output 12 live: the case stores into it. -/
theorem liveAt0_12_A : ∀ t : Fin cfg0.N, cond0_0 (grid0.coords t) → ¬cond0_1 (grid0.coords t) → cfg0.idle 12 (grid0.coords t) = false := by decide +kernel
/-- At the points of case B the printed configuration (`Cfg.idle`) calls output 12 idle: the case stores nothing into it. -/
theorem idleAt0_12_B : ∀ t : Fin cfg0.N, ¬cond0_0 (grid0.coords t) → ¬cond0_1 (grid0.coords t) → cfg0.idle 12 (grid0.coords t) = true := by decide +kernel
/-- At the points of case B the pipeline does not write output 12's block back. -/
theorem noFlush0_12_B : ∀ t : Fin cfg0.N, ¬cond0_0 (grid0.coords t) → ¬cond0_1 (grid0.coords t) → (cfg0.win 12).flush t = false := by decide +kernel
/-- At the points of case C the printed configuration (`Cfg.idle`) calls output 12 idle: the case stores nothing into it. -/
theorem idleAt0_12_C : ∀ t : Fin cfg0.N, ¬cond0_0 (grid0.coords t) → cond0_1 (grid0.coords t) → cfg0.idle 12 (grid0.coords t) = true := by decide +kernel
/-! ## The kernel body on any staging memrefs: a subtype the run finds -/

/-- One staging buffer of output window 10, through which its contents are stated (`View.read_writes_of_cover`: the
    choice does not matter). -/
abbrev VO0_10 : View sig .tc .vmem S256x2048 .bf16 := (Memref.whole cc0_stg10_0 : Memref sig .tc .vmem S256x2048 .bf16).view
/-- One staging buffer of output window 11, through which its contents are stated (`View.read_writes_of_cover`: the
    choice does not matter). -/
abbrev VO0_11 : View sig .tc .vmem S256x512 .f32 := (Memref.whole cc0_stg11_0 : Memref sig .tc .vmem S256x512 .f32).view
/-- One staging buffer of output window 12, through which its contents are stated (`View.read_writes_of_cover`: the
    choice does not matter). -/
abbrev VO0_12 : View sig .tc .vmem S256x2048 .i8 := (Memref.whole cc0_stg12_0 : Memref sig .tc .vmem S256x2048 .i8).view
/-- One staging buffer of output window 13, through which its contents are stated (`View.read_writes_of_cover`: the
    choice does not matter). -/
abbrev VO0_13 : View sig .tc .vmem S2048x512 .i8 := (Memref.whole cc0_stg13_0 : Memref sig .tc .vmem S2048x512 .i8).view
/-- One staging buffer of output window 14, through which its contents are stated (`View.read_writes_of_cover`: the
    choice does not matter). -/
abbrev VO0_14 : View sig .tc .vmem S2048x512 .i8 := (Memref.whole cc0_stg14_0 : Memref sig .tc .vmem S2048x512 .i8).view
/-- One staging buffer of output window 15, through which its contents are stated (`View.read_writes_of_cover`: the
    choice does not matter). -/
abbrev VO0_15 : View sig .tc .vmem S256x512 .i8 := (Memref.whole cc0_stg15_0 : Memref sig .tc .vmem S256x512 .i8).view
/-- One staging buffer of output window 16, through which its contents are stated (`View.read_writes_of_cover`: the
    choice does not matter). -/
abbrev VO0_16 : View sig .tc .vmem S512x2048 .i8 := (Memref.whole cc0_stg16_0 : Memref sig .tc .vmem S512x2048 .i8).view
/-- Each window's current staging memref at point `t`, spelled as the pipeline passes it (`bodyAt0`), and its wholeness. -/
abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .smem S1x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x2048 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x2048 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2048x512 .i8 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S2048x512 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x512 .i8 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S512x2048 .i8 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S256x2048 .bf16 := Memref.whole cc0_scratch0
abbrev scM0_1 : Memref sig .tc .vmem S256x2048 .f32 := Memref.whole cc0_scratch1
/-- The scratch `arg18` the kernel carries between points, as a view: what it holds is stated through it. -/
abbrev VS0_0 : View sig .tc .vmem S256x2048 .bf16 := scM0_0.view
/-- The scratch `arg19` the kernel carries between points, as a view: what it holds is stated through it. -/
abbrev VS0_1 : View sig .tc .vmem S256x2048 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.Math.Grid.lean ====
/-
  The mathematics of the quantised gated block, over grids of any width: what one code, one dot product of values with
  codes, one activation and one output element are. Both programs are read down to these functions.
-/
module

public import Idealize.ShloMosaic.Lib.Pointwise

@[expose] public noncomputable section

namespace Cert.Mlp

open Idealize.ShloMosaic Idealize.ShloMosaic.Pointwise

/-- The two-dimensional shape of `m` rows and `n` columns. -/
abbrev Sh (m n : ℕ) : Shape := ⟨2, ![m, n]⟩

/-- The integer word `b` as an extended real. -/
abbrev num {w : ℕ} (b : BitVec w) : EReal := ((b.toInt : ℝ) : EReal)

/-- The code of `v` between `lo` and `hi`: clip, round half to even, convert. -/
def code (lo hi : BitVec 32) (v : EReal) : BitVec 8 :=
  FloatOps.fptosi (F := Ideal) (φ := .f32) 8
    (Ideal.liftRound Ideal.roundHalfEven (min (num hi) (max (num lo) v)))

/-- A four-bit code of `v`: between -8 and 7. -/
abbrev code4 (v : EReal) : BitVec 8 := code 4294967288#32 7#32 v

/-- An eight-bit code of `v`: between -128 and 127. -/
abbrev code8 (v : EReal) : BitVec 8 := code 4294967168#32 127#32 v

/-- A code as a number. -/
abbrev val (c : BitVec 8) : EReal := num c

/-- The four-bit codes of a weight grid, one scale to a column. -/
def codes {m n : ℕ} (w : (Sh m n).Idx → EReal) (s : (Sh 1 n).Idx → EReal) (y : (Sh m n).Idx) : BitVec 8 :=
  code4 (Ideal.div (w y) (s (ix2 0 (y 1))))

/-- The product of a grid of numbers with a grid of codes, at one position. -/
def dot {m k n : ℕ} (a : (Sh m k).Idx → EReal) (c : (Sh k n).Idx → BitVec 8) (y : (Sh m n).Idx) : EReal :=
  ∑ p : Fin k, a (ix2 (y 0) p) * val (c (ix2 p (y 1)))

/-- One projection of the activation: the product with the codes of the weights, scaled back. -/
def proj {m k n : ℕ} (a : (Sh m k).Idx → EReal) (w : (Sh k n).Idx → EReal) (s : (Sh 1 n).Idx → EReal) (d : EReal)
    (y : (Sh m n).Idx) : EReal :=
  dot a (codes w s) y * d * s (ix2 0 (y 1))

/-- The gated activation: the first projection times its logistic, times the second projection. -/
def gated {m k n : ℕ} (a : (Sh m k).Idx → EReal) (wg wu : (Sh k n).Idx → EReal) (sg su : (Sh 1 n).Idx → EReal) (d : EReal)
    (y : (Sh m n).Idx) : EReal :=
  proj a wg sg d y * Ideal.logistic (proj a wg sg d y) * proj a wu su d y

/-- The eight-bit codes of a grid of numbers under one scale. -/
def codesBy {m n : ℕ} (a : (Sh m n).Idx → EReal) (d : EReal) (y : (Sh m n).Idx) : BitVec 8 := code8 (Ideal.div (a y) d)

/-- A grid of codes as numbers. -/
def vals {m n : ℕ} (c : (Sh m n).Idx → BitVec 8) (y : (Sh m n).Idx) : EReal := val (c y)

/-- A row scaled by its root mean square and by the weights of the columns. -/
def normed {m n : ℕ} (x : (Sh m n).Idx → EReal) (g : (Sh 1 n).Idx → EReal) (y : (Sh m n).Idx) : EReal :=
  x y * Ideal.div 1 (Ideal.sqrt (Ideal.div (∑ k : Fin n, x (ix2 (y 0) k) * x (ix2 (y 0) k)) (Ideal.ofBits FTy.f32 1157627904#32)
    + Ideal.ofBits FTy.f32 925353388#32)) * g (ix2 0 (y 1))

/-- The output: the input plus the down projection scaled back. -/
def outp {m n : ℕ} (x acc : (Sh m n).Idx → EReal) (s : (Sh 1 n).Idx → EReal) (d : EReal) (y : (Sh m n).Idx) : EReal :=
  x y + acc y * d * s (ix2 0 (y 1))

end Cert.Mlp
-- ==== Proof.Body.Payloads.lean ====
/-
  What the kernel's printed vector terms compute over the extended reals, one at a time: the codes of a chunk of a weight
  block, the two chains of partial products, the gated activation, the chunk of the accumulator and the output.
-/
module

public import proofs.«01_k».proof.Proof.Body.Kit
public import proofs.«01_k».proof.Proof.Math.Grid
public import Idealize.ShloMosaic.Lib.Pipeline.ValueKit

@[expose] public noncomputable section

namespace Cert.KernelIdeal.Body

open Cert.KernelIdeal.Gen Cert.Mlp
open Idealize.ShloMosaic Idealize.ShloMosaic.Pointwise

/-! ## Codes of a chunk of rows of a gate or up block -/

section Rows
variable (s : Vec Ideal S1x512 .f32) (w : Vec Ideal S256x512 .bf16)

/-- The scales are read as they stand. -/
theorem pay5_eq : k0_pay5 s = s := by funext y; pointwise [k0_pay5]
/-- The scales are read as they stand. -/
theorem pay18_eq : k0_pay18 s = s := by funext y; pointwise [k0_pay18]

theorem pay9_eq : k0_pay9 s w = codes w s := by funext y; pointwise [k0_pay9]; rfl
theorem pay6_eq : k0_pay6 s w = codes w s := by funext y; pointwise [k0_pay6, pay5_eq]; rfl
theorem pay8_eq : k0_pay8 s w = codes w s := pay6_eq s w
theorem pay11_eq : k0_pay11 s w = codes w s := pay9_eq s w
theorem pay12_eq : k0_pay12 s w = codes w s := pay9_eq s w
theorem pay13_eq : k0_pay13 s w = codes w s := pay9_eq s w
theorem pay15_eq : k0_pay15 s w = codes w s := pay9_eq s w
theorem pay16_eq : k0_pay16 s w = codes w s := pay9_eq s w
theorem pay19_eq : k0_pay19 s w = codes w s := pay9_eq s w
theorem pay20_eq : k0_pay20 s w = codes w s := pay9_eq s w
theorem pay23_eq : k0_pay23 (k0_pay22 s w) 4294967288#32 = codes w s := pay9_eq s w
theorem pay24_eq : k0_pay24 s w = codes w s := pay9_eq s w
theorem pay28_eq : k0_pay28 (k0_pay26 s w) k0_pay27 = codes w s := pay9_eq s w
theorem pay29_eq : k0_pay29 s w = codes w s := pay9_eq s w
theorem pay31_eq : k0_pay31 s w = codes w s := pay9_eq s w
theorem pay32_eq : k0_pay32 s w = codes w s := pay9_eq s w

end Rows

/-! ## Codes of a chunk of columns of a down block -/

section Cols
variable (w : Vec Ideal S512x256 .bf16) (s : Vec Ideal S1x256 .f32)

theorem pay36_eq : k0_pay36 w s = codes w s := by funext y; pointwise [k0_pay36]; rfl
theorem pay38_eq : k0_pay38 w s = codes w s := pay36_eq w s
theorem pay40_eq : k0_pay40 w s = codes w s := pay36_eq w s
theorem pay43_eq : k0_pay43 (k0_pay42 w) s = codes w s := pay36_eq w s
theorem pay45_eq : k0_pay45 w s = codes w s := pay36_eq w s
theorem pay48_eq : k0_pay48 w s = codes w s := pay36_eq w s
theorem pay51_eq : k0_pay51 7#32 (k0_pay50 w s) = codes w s := pay36_eq w s
theorem pay53_eq : k0_pay53 w s = codes w s := pay36_eq w s

end Cols

/-! ## The chunk of the accumulator a chunk of the down block adds to -/

section Acc
variable (c : IVec S256x512 8) (w : Vec Ideal S512x256 .bf16) (s : Vec Ideal S1x256 .f32) (v : Vec Ideal S256x256 .f32)

/-- The chunk plus the product of the codes of the activation with the codes of the chunk of weights. -/
def accChunk (c : IVec S256x512 8) (w : Vec Ideal S512x256 .bf16) (s : Vec Ideal S1x256 .f32) (v : Vec Ideal S256x256 .f32) :
    Vec Ideal S256x256 .f32 := fun y => v y + dot (vals c) (codes w s) y

theorem pay37_eq : k0_pay37 c w s v = accChunk c w s v := by
  funext y; pointwise [k0_pay37, pay36_eq, k0_pay35]; rfl
theorem pay39_eq : k0_pay39 (k0_pay35 c) (k0_pay38 w s) v = accChunk c w s v := pay37_eq c w s v
theorem pay41_eq : k0_pay41 (k0_pay35 c) w s v = accChunk c w s v := pay37_eq c w s v
theorem pay44_eq : k0_pay44 (k0_pay35 c) (k0_pay42 w) s v = accChunk c w s v := pay37_eq c w s v
theorem pay47_eq : k0_pay47 (k0_pay35 c) v (k0_pay46 w s) (constant S256x256 FTy.f32 0#32) = accChunk c w s v := pay37_eq c w s v
theorem pay49_eq : k0_pay49 (k0_pay35 c) w s v = accChunk c w s v := pay37_eq c w s v
theorem pay52_eq : k0_pay52 (k0_pay35 c) 7#32 (k0_pay50 w s) v = accChunk c w s v := pay37_eq c w s v
theorem pay54_eq : k0_pay54 (k0_pay35 c) w s v = accChunk c w s v := pay37_eq c w s v

end Acc

/-! ## The codes of the first activation, the output, and the zeros -/

theorem pay2_eq (d : Elt Ideal .f32) (x : Vec Ideal S256x2048 .bf16) (g : Vec Ideal S1x2048 .f32) :
    k0_pay2 d x g = codesBy (normed x g) d := by funext y; pointwise [k0_pay2]; rfl

theorem pay3_eq (d : Elt Ideal .f32) (x : Vec Ideal S256x2048 .bf16) (g : Vec Ideal S1x2048 .f32) :
    k0_pay3 d x g = vals (codesBy (normed x g) d) := by funext y; pointwise [k0_pay3, pay2_eq]; rfl

theorem pay4_eq : k0_pay4 (F := Ideal) = fun _ => 0 := by funext y; pointwise [k0_pay4]

theorem pay1_eq (d : Elt Ideal .f32) (a : Vec Ideal S256x2048 .f32) (s : Vec Ideal S1x2048 .f32) (x : Vec Ideal S256x2048 .bf16) :
    k0_pay1 d a s x = outp x a s d := by funext y; pointwise [k0_pay1]; rfl

/-! ## The two chains of partial products -/

/-- A sum over 2048 positions, in eight runs of 256. -/
theorem sum_eight (f : Fin 2048 → EReal) :
    ∑ k, f k = ∑ k : Fin 256, f ⟨0 + k.val, by omega⟩ + ∑ k : Fin 256, f ⟨256 + k.val, by omega⟩ + ∑ k : Fin 256, f ⟨512 + k.val, by omega⟩
      + ∑ k : Fin 256, f ⟨768 + k.val, by omega⟩ + ∑ k : Fin 256, f ⟨1024 + k.val, by omega⟩ + ∑ k : Fin 256, f ⟨1280 + k.val, by omega⟩
      + ∑ k : Fin 256, f ⟨1536 + k.val, by omega⟩ + ∑ k : Fin 256, f ⟨1792 + k.val, by omega⟩ := by
  rw [Fin.sum_univ_tiles 8 256 rfl, Fin.sum_univ_eight]; rfl

/-- A chunk of 256 rows of a weight block. -/
abbrev rows (w : Vec Ideal S2048x512 .bf16) (o : ℕ) (h : ∀ a, (![o, 0] : Fin 2 → ℕ) a + S256x512.size a ≤ S2048x512.size a) :
    Vec Ideal S256x512 .bf16 := View.ld w (Rect.unit ![o, 0] S256x512.size h)

/-- A chunk of 256 columns of the activation. -/
abbrev cols (a : Vec Ideal S256x2048 .bf16) (o : ℕ) (h : ∀ d, (![0, o] : Fin 2 → ℕ) d + S256x256.size d ≤ S256x2048.size d) :
    Vec Ideal S256x256 .bf16 := View.ld a (Rect.unit ![0, o] S256x256.size h)

/-- One partial product reads the whole activation and the codes of the whole block, from its offset on. -/
theorem dot_chunk (s : Vec Ideal S1x512 .f32) (w : Vec Ideal S2048x512 .bf16) (a : Vec Ideal S256x2048 .bf16) (o : ℕ) (ho : o + 256 ≤ 2048)
    (h) (h') (r : Fin 256) (c : Fin 512) :
    ∑ k : Fin 256, cols a o h (ix2 r k) * FloatOps.sitofp (F := Ideal) FTy.bf16 (codes (rows w o h') s (ix2 k c))
      = ∑ k : Fin 256, a (ix2 r ⟨o + k.val, by omega⟩) * val (codes w s (ix2 ⟨o + k.val, by omega⟩ c)) := by
  refine Finset.sum_congr rfl fun k _ => ?_
  have h1 : cols a o h (ix2 r k) = a (ix2 r ⟨o + k.val, by omega⟩) := by
    show a _ = a _
    congr 1
    funext d
    apply Fin.ext
    fin_cases d <;> simp [Rect.idx_unit_val, ix2]
  have h2 : rows w o h' (ix2 k c) = w (ix2 ⟨o + k.val, by omega⟩ c) := by
    show w _ = w _
    congr 1
    funext d
    apply Fin.ext
    fin_cases d <;> simp [Rect.idx_unit_val, ix2]
  have h3 : codes (rows w o h') s (ix2 k c) = codes w s (ix2 ⟨o + k.val, by omega⟩ c) := by
    unfold codes; rw [h2]; rfl
  rw [h1, h3]; rfl

/-- The eight partial products, in order. -/
theorem eight_chunks (s : Vec Ideal S1x512 .f32) (w : Vec Ideal S2048x512 .bf16) (a : Vec Ideal S256x2048 .bf16) (r : Fin 256) (c : Fin 512) :
    ∑ k : Fin 256, cols a 0 inb_S256x2048_S256x256_0_0 (ix2 r k) * FloatOps.sitofp (F := Ideal) FTy.bf16 (codes (rows w 0 inb_S2048x512_S256x512_0_0) s (ix2 k c))
      + ∑ k : Fin 256, cols a 256 inb_S256x2048_S256x256_0_256 (ix2 r k) * FloatOps.sitofp (F := Ideal) FTy.bf16 (codes (rows w 256 inb_S2048x512_S256x512_256_0) s (ix2 k c))
      + ∑ k : Fin 256, cols a 512 inb_S256x2048_S256x256_0_512 (ix2 r k) * FloatOps.sitofp (F := Ideal) FTy.bf16 (codes (rows w 512 inb_S2048x512_S256x512_512_0) s (ix2 k c))
      + ∑ k : Fin 256, cols a 768 inb_S256x2048_S256x256_0_768 (ix2 r k) * FloatOps.sitofp (F := Ideal) FTy.bf16 (codes (rows w 768 inb_S2048x512_S256x512_768_0) s (ix2 k c))
      + ∑ k : Fin 256, cols a 1024 inb_S256x2048_S256x256_0_1024 (ix2 r k) * FloatOps.sitofp (F := Ideal) FTy.bf16 (codes (rows w 1024 inb_S2048x512_S256x512_1024_0) s (ix2 k c))
      + ∑ k : Fin 256, cols a 1280 inb_S256x2048_S256x256_0_1280 (ix2 r k) * FloatOps.sitofp (F := Ideal) FTy.bf16 (codes (rows w 1280 inb_S2048x512_S256x512_1280_0) s (ix2 k c))
      + ∑ k : Fin 256, cols a 1536 inb_S256x2048_S256x256_0_1536 (ix2 r k) * FloatOps.sitofp (F := Ideal) FTy.bf16 (codes (rows w 1536 inb_S2048x512_S256x512_1536_0) s (ix2 k c))
      + ∑ k : Fin 256, cols a 1792 inb_S256x2048_S256x256_0_1792 (ix2 r k) * FloatOps.sitofp (F := Ideal) FTy.bf16 (codes (rows w 1792 inb_S2048x512_S256x512_1792_0) s (ix2 k c))
    = ∑ k : Fin 256, a (ix2 r ⟨0 + k.val, by omega⟩) * val (codes w s (ix2 ⟨0 + k.val, by omega⟩ c))
      + ∑ k : Fin 256, a (ix2 r ⟨256 + k.val, by omega⟩) * val (codes w s (ix2 ⟨256 + k.val, by omega⟩ c))
      + ∑ k : Fin 256, a (ix2 r ⟨512 + k.val, by omega⟩) * val (codes w s (ix2 ⟨512 + k.val, by omega⟩ c))
      + ∑ k : Fin 256, a (ix2 r ⟨768 + k.val, by omega⟩) * val (codes w s (ix2 ⟨768 + k.val, by omega⟩ c))
      + ∑ k : Fin 256, a (ix2 r ⟨1024 + k.val, by omega⟩) * val (codes w s (ix2 ⟨1024 + k.val, by omega⟩ c))
      + ∑ k : Fin 256, a (ix2 r ⟨1280 + k.val, by omega⟩) * val (codes w s (ix2 ⟨1280 + k.val, by omega⟩ c))
      + ∑ k : Fin 256, a (ix2 r ⟨1536 + k.val, by omega⟩) * val (codes w s (ix2 ⟨1536 + k.val, by omega⟩ c))
      + ∑ k : Fin 256, a (ix2 r ⟨1792 + k.val, by omega⟩) * val (codes w s (ix2 ⟨1792 + k.val, by omega⟩ c)) := by
  rw [dot_chunk s w a 0 (by omega), dot_chunk s w a 256 (by omega), dot_chunk s w a 512 (by omega), dot_chunk s w a 768 (by omega),
    dot_chunk s w a 1024 (by omega), dot_chunk s w a 1280 (by omega), dot_chunk s w a 1536 (by omega), dot_chunk s w a 1792 (by omega)]

/-- The gate projection as the kernel sums it: eight partial products, one to a chunk of 256. -/
def gateTerm (d : Elt Ideal .f32) (s : Vec Ideal S1x512 .f32) (w : Vec Ideal S2048x512 .bf16) (a : Vec Ideal S256x2048 .bf16) :
    Vec Ideal S256x512 .f32 :=
  k0_pay17 d (k0_pay5 s)
    (k0_pay14 (k0_pay5 s)
      (k0_pay10 (k0_pay5 s)
        (k0_pay7 s (rows w 0 inb_S2048x512_S256x512_0_0) (cols a 0 inb_S256x2048_S256x256_0_0))
        (k0_pay8 s (rows w 256 inb_S2048x512_S256x512_256_0)) (cols a 256 inb_S256x2048_S256x256_0_256)
        (rows w 512 inb_S2048x512_S256x512_512_0) (cols a 512 inb_S256x2048_S256x256_0_512))
      (k0_pay11 (k0_pay5 s) (rows w 768 inb_S2048x512_S256x512_768_0)) (cols a 768 inb_S256x2048_S256x256_0_768)
      (rows w 1024 inb_S2048x512_S256x512_1024_0) (cols a 1024 inb_S256x2048_S256x256_0_1024)
      (rows w 1280 inb_S2048x512_S256x512_1280_0) (cols a 1280 inb_S256x2048_S256x256_0_1280))
    (rows w 1536 inb_S2048x512_S256x512_1536_0) (cols a 1536 inb_S256x2048_S256x256_0_1536)
    (rows w 1792 inb_S2048x512_S256x512_1792_0) (cols a 1792 inb_S256x2048_S256x256_0_1792)

/-- The gated activation as the kernel sums it, over a gate projection `g`. -/
def gatedTerm (d : Elt Ideal .f32) (g : Vec Ideal S256x512 .f32) (s : Vec Ideal S1x512 .f32) (w : Vec Ideal S2048x512 .bf16)
    (a : Vec Ideal S256x2048 .bf16) : Vec Ideal S256x512 .f32 :=
  k0_pay33 d g (k0_pay18 s)
    (k0_pay30 (k0_pay18 s)
      (k0_pay25 (k0_pay18 s)
        (k0_pay21 (k0_pay18 s) (rows w 0 inb_S2048x512_S256x512_0_0) (cols a 0 inb_S256x2048_S256x256_0_0)
          (rows w 256 inb_S2048x512_S256x512_256_0) (cols a 256 inb_S256x2048_S256x256_0_256))
        (k0_pay22 (k0_pay18 s) (rows w 512 inb_S2048x512_S256x512_512_0)) 4294967288#32 (cols a 512 inb_S256x2048_S256x256_0_512)
        (rows w 768 inb_S2048x512_S256x512_768_0) (cols a 768 inb_S256x2048_S256x256_0_768))
      (k0_pay26 (k0_pay18 s) (rows w 1024 inb_S2048x512_S256x512_1024_0)) k0_pay27 (cols a 1024 inb_S256x2048_S256x256_0_1024)
      (rows w 1280 inb_S2048x512_S256x512_1280_0) (cols a 1280 inb_S256x2048_S256x256_0_1280))
    (k0_pay31 (k0_pay18 s) (rows w 1536 inb_S2048x512_S256x512_1536_0)) (cols a 1536 inb_S256x2048_S256x256_0_1536)
    (rows w 1792 inb_S2048x512_S256x512_1792_0) (cols a 1792 inb_S256x2048_S256x256_0_1792)

/-- The eight partial products are the product over the whole depth. -/
theorem gateTerm_eq (d : Elt Ideal .f32) (s : Vec Ideal S1x512 .f32) (w : Vec Ideal S2048x512 .bf16) (a : Vec Ideal S256x2048 .bf16) :
    gateTerm d s w a = proj a w s d := by
  funext y
  pointwise [gateTerm, k0_pay17, k0_pay14, k0_pay10, k0_pay7, pay5_eq, pay6_eq, pay8_eq, pay9_eq, pay11_eq, pay12_eq, pay13_eq, pay15_eq, pay16_eq]
  unfold proj dot
  rw [sum_eight]
  congr 2
  exact eight_chunks s w a (y 0) (y 1)

/-- The same of the up projection, gated. -/
theorem gatedTerm_eq (d : Elt Ideal .f32) (g : Vec Ideal S256x512 .f32) (s : Vec Ideal S1x512 .f32) (w : Vec Ideal S2048x512 .bf16)
    (a : Vec Ideal S256x2048 .bf16) :
    gatedTerm d g s w a = fun y => g y * Ideal.logistic (g y) * proj a w s d y := by
  funext y
  pointwise [gatedTerm, k0_pay33, k0_pay30, k0_pay25, k0_pay21, pay18_eq, pay19_eq, pay20_eq, pay23_eq, pay24_eq, pay28_eq, pay29_eq, pay31_eq, pay32_eq]
  unfold proj dot
  rw [sum_eight]
  congr 3
  exact eight_chunks s w a (y 0) (y 1)

/-- The codes of the gated activation, as the kernel sums it. -/
def midTerm (d e : Elt Ideal .f32) (g : Vec Ideal S256x512 .f32) (s : Vec Ideal S1x512 .f32) (w : Vec Ideal S2048x512 .bf16)
    (a : Vec Ideal S256x2048 .bf16) : IVec S256x512 8 :=
  k0_pay34 d e g (k0_pay18 s)
    (k0_pay30 (k0_pay18 s)
      (k0_pay25 (k0_pay18 s)
        (k0_pay21 (k0_pay18 s) (rows w 0 inb_S2048x512_S256x512_0_0) (cols a 0 inb_S256x2048_S256x256_0_0)
          (rows w 256 inb_S2048x512_S256x512_256_0) (cols a 256 inb_S256x2048_S256x256_0_256))
        (k0_pay22 (k0_pay18 s) (rows w 512 inb_S2048x512_S256x512_512_0)) 4294967288#32 (cols a 512 inb_S256x2048_S256x256_0_512)
        (rows w 768 inb_S2048x512_S256x512_768_0) (cols a 768 inb_S256x2048_S256x256_0_768))
      (k0_pay26 (k0_pay18 s) (rows w 1024 inb_S2048x512_S256x512_1024_0)) k0_pay27 (cols a 1024 inb_S256x2048_S256x256_0_1024)
      (rows w 1280 inb_S2048x512_S256x512_1280_0) (cols a 1280 inb_S256x2048_S256x256_0_1280))
    (k0_pay31 (k0_pay18 s) (rows w 1536 inb_S2048x512_S256x512_1536_0)) (cols a 1536 inb_S256x2048_S256x256_0_1536)
    (rows w 1792 inb_S2048x512_S256x512_1792_0) (cols a 1792 inb_S256x2048_S256x256_0_1792)

/-- They are the codes of the gated activation. -/
theorem midTerm_eq (d e : Elt Ideal .f32) (g : Vec Ideal S256x512 .f32) (s : Vec Ideal S1x512 .f32) (w : Vec Ideal S2048x512 .bf16)
    (a : Vec Ideal S256x2048 .bf16) : midTerm d e g s w a = codesBy (gatedTerm d g s w a) e := by
  funext y
  pointwise [midTerm, k0_pay34]
  rfl

/-- The gated activation over both projections. -/
theorem gatedTerm_gateTerm (d : Elt Ideal .f32) (sg su : Vec Ideal S1x512 .f32) (wg wu : Vec Ideal S2048x512 .bf16) (a : Vec Ideal S256x2048 .bf16) :
    gatedTerm d (gateTerm d sg wg a) su wu a = gated a wg wu sg su d := by
  rw [gatedTerm_eq, gateTerm_eq]; rfl

end Cert.KernelIdeal.Body
-- ==== Proof.Body.Lists.lean ====
/-
  The stores of one pass of the kernel body, as lists of chunks, and what each list leaves in its buffer.
-/
module

public import proofs.«01_k».proof.Proof.Body.Payloads
public import Idealize.ShloMosaic.Lib.Pipeline.ReadBack

@[expose] public noncomputable section

set_option maxRecDepth 16384

namespace Cert.KernelIdeal.Body

open Cert.KernelIdeal.Gen Cert.Mlp
open Idealize.ShloMosaic Idealize.ShloMosaic.Pointwise Idealize.ShloMosaic.Tactic

/-- A chunk of 256 columns of a down block. -/
abbrev dcols (w : Vec Ideal S512x2048 .bf16) (o : ℕ) (h : ∀ d, (![0, o] : Fin 2 → ℕ) d + S512x256.size d ≤ S512x2048.size d) :
    Vec Ideal S512x256 .bf16 := View.ld w (Rect.unit ![0, o] S512x256.size h)

/-- A chunk of 256 scales of the down weights. -/
abbrev scols (s : Vec Ideal S1x2048 .f32) (o : ℕ) (h : ∀ d, (![0, o] : Fin 2 → ℕ) d + S1x256.size d ≤ S1x2048.size d) :
    Vec Ideal S1x256 .f32 := View.ld s (Rect.unit ![0, o] S1x256.size h)

/-- The stores of the gate codes: eight chunks of rows. -/
def gateList (s : Vec Ideal S1x512 .f32) (w : Vec Ideal S2048x512 .bf16) : List (View.Piece (Elt Ideal) S2048x512 .i8) :=
  [⟨Rect.unit ![1792, 0] S256x512.size inb_S2048x512_S256x512_1792_0, k0_pay16 (k0_pay5 s) (rows w 1792 inb_S2048x512_S256x512_1792_0)⟩,
    ⟨Rect.unit ![1536, 0] S256x512.size inb_S2048x512_S256x512_1536_0, k0_pay15 (k0_pay5 s) (rows w 1536 inb_S2048x512_S256x512_1536_0)⟩,
    ⟨Rect.unit ![1280, 0] S256x512.size inb_S2048x512_S256x512_1280_0, k0_pay13 (k0_pay5 s) (rows w 1280 inb_S2048x512_S256x512_1280_0)⟩,
    ⟨Rect.unit ![1024, 0] S256x512.size inb_S2048x512_S256x512_1024_0, k0_pay12 (k0_pay5 s) (rows w 1024 inb_S2048x512_S256x512_1024_0)⟩,
    ⟨Rect.unit ![768, 0] S256x512.size inb_S2048x512_S256x512_768_0, k0_pay11 (k0_pay5 s) (rows w 768 inb_S2048x512_S256x512_768_0)⟩,
    ⟨Rect.unit ![512, 0] S256x512.size inb_S2048x512_S256x512_512_0, k0_pay9 (k0_pay5 s) (rows w 512 inb_S2048x512_S256x512_512_0)⟩,
    ⟨Rect.unit ![256, 0] S256x512.size inb_S2048x512_S256x512_256_0, k0_pay8 s (rows w 256 inb_S2048x512_S256x512_256_0)⟩,
    ⟨Rect.unit ![0, 0] S256x512.size inb_S2048x512_S256x512_0_0, k0_pay6 s (rows w 0 inb_S2048x512_S256x512_0_0)⟩]

/-- The stores of the up codes: eight chunks of rows. -/
def upList (s : Vec Ideal S1x512 .f32) (w : Vec Ideal S2048x512 .bf16) : List (View.Piece (Elt Ideal) S2048x512 .i8) :=
  [⟨Rect.unit ![1792, 0] S256x512.size inb_S2048x512_S256x512_1792_0, k0_pay32 (k0_pay18 s) (rows w 1792 inb_S2048x512_S256x512_1792_0)⟩,
    ⟨Rect.unit ![1536, 0] S256x512.size inb_S2048x512_S256x512_1536_0, k0_pay31 (k0_pay18 s) (rows w 1536 inb_S2048x512_S256x512_1536_0)⟩,
    ⟨Rect.unit ![1280, 0] S256x512.size inb_S2048x512_S256x512_1280_0, k0_pay29 (k0_pay18 s) (rows w 1280 inb_S2048x512_S256x512_1280_0)⟩,
    ⟨Rect.unit ![1024, 0] S256x512.size inb_S2048x512_S256x512_1024_0, k0_pay28 (k0_pay26 (k0_pay18 s) (rows w 1024 inb_S2048x512_S256x512_1024_0)) k0_pay27⟩,
    ⟨Rect.unit ![768, 0] S256x512.size inb_S2048x512_S256x512_768_0, k0_pay24 (k0_pay18 s) (rows w 768 inb_S2048x512_S256x512_768_0)⟩,
    ⟨Rect.unit ![512, 0] S256x512.size inb_S2048x512_S256x512_512_0, k0_pay23 (k0_pay22 (k0_pay18 s) (rows w 512 inb_S2048x512_S256x512_512_0)) 4294967288#32⟩,
    ⟨Rect.unit ![256, 0] S256x512.size inb_S2048x512_S256x512_256_0, k0_pay20 (k0_pay18 s) (rows w 256 inb_S2048x512_S256x512_256_0)⟩,
    ⟨Rect.unit ![0, 0] S256x512.size inb_S2048x512_S256x512_0_0, k0_pay19 (k0_pay18 s) (rows w 0 inb_S2048x512_S256x512_0_0)⟩]

/-- The stores of the down codes: eight chunks of columns. -/
def downList (s : Vec Ideal S1x2048 .f32) (w : Vec Ideal S512x2048 .bf16) : List (View.Piece (Elt Ideal) S512x2048 .i8) :=
  [⟨Rect.unit ![0, 1792] S512x256.size inb_S512x2048_S512x256_0_1792, k0_pay53 (dcols w 1792 inb_S512x2048_S512x256_0_1792) (scols s 1792 inb_S1x2048_S1x256_0_1792)⟩,
    ⟨Rect.unit ![0, 1536] S512x256.size inb_S512x2048_S512x256_0_1536, k0_pay51 7#32 (k0_pay50 (dcols w 1536 inb_S512x2048_S512x256_0_1536) (scols s 1536 inb_S1x2048_S1x256_0_1536))⟩,
    ⟨Rect.unit ![0, 1280] S512x256.size inb_S512x2048_S512x256_0_1280, k0_pay48 (dcols w 1280 inb_S512x2048_S512x256_0_1280) (scols s 1280 inb_S1x2048_S1x256_0_1280)⟩,
    ⟨Rect.unit ![0, 1024] S512x256.size inb_S512x2048_S512x256_0_1024, k0_pay45 (dcols w 1024 inb_S512x2048_S512x256_0_1024) (scols s 1024 inb_S1x2048_S1x256_0_1024)⟩,
    ⟨Rect.unit ![0, 768] S512x256.size inb_S512x2048_S512x256_0_768, k0_pay43 (k0_pay42 (dcols w 768 inb_S512x2048_S512x256_0_768)) (scols s 768 inb_S1x2048_S1x256_0_768)⟩,
    ⟨Rect.unit ![0, 512] S512x256.size inb_S512x2048_S512x256_0_512, k0_pay40 (dcols w 512 inb_S512x2048_S512x256_0_512) (scols s 512 inb_S1x2048_S1x256_0_512)⟩,
    ⟨Rect.unit ![0, 256] S512x256.size inb_S512x2048_S512x256_0_256, k0_pay38 (dcols w 256 inb_S512x2048_S512x256_0_256) (scols s 256 inb_S1x2048_S1x256_0_256)⟩,
    ⟨Rect.unit ![0, 0] S512x256.size inb_S512x2048_S512x256_0_0, k0_pay36 (dcols w 0 inb_S512x2048_S512x256_0_0) (scols s 0 inb_S1x2048_S1x256_0_0)⟩]

/-- The stores of the accumulator: eight chunks of columns, each over the chunk `v` loaded before it. -/
def accList (c : IVec S256x512 8) (s : Vec Ideal S1x2048 .f32) (w : Vec Ideal S512x2048 .bf16)
    (v0 v1 v2 v3 v4 v5 v6 v7 : Vec Ideal S256x256 .f32) : List (View.Piece (Elt Ideal) S256x2048 .f32) :=
  [⟨Rect.unit ![0, 1792] S256x256.size inb_S256x2048_S256x256_0_1792, k0_pay54 (k0_pay35 c) (dcols w 1792 inb_S512x2048_S512x256_0_1792) (scols s 1792 inb_S1x2048_S1x256_0_1792) v7⟩,
    ⟨Rect.unit ![0, 1536] S256x256.size inb_S256x2048_S256x256_0_1536, k0_pay52 (k0_pay35 c) 7#32 (k0_pay50 (dcols w 1536 inb_S512x2048_S512x256_0_1536) (scols s 1536 inb_S1x2048_S1x256_0_1536)) v6⟩,
    ⟨Rect.unit ![0, 1280] S256x256.size inb_S256x2048_S256x256_0_1280, k0_pay49 (k0_pay35 c) (dcols w 1280 inb_S512x2048_S512x256_0_1280) (scols s 1280 inb_S1x2048_S1x256_0_1280) v5⟩,
    ⟨Rect.unit ![0, 1024] S256x256.size inb_S256x2048_S256x256_0_1024, k0_pay47 (k0_pay35 c) v4 (k0_pay46 (dcols w 1024 inb_S512x2048_S512x256_0_1024) (scols s 1024 inb_S1x2048_S1x256_0_1024)) (constant S256x256 FTy.f32 0#32)⟩,
    ⟨Rect.unit ![0, 768] S256x256.size inb_S256x2048_S256x256_0_768, k0_pay44 (k0_pay35 c) (k0_pay42 (dcols w 768 inb_S512x2048_S512x256_0_768)) (scols s 768 inb_S1x2048_S1x256_0_768) v3⟩,
    ⟨Rect.unit ![0, 512] S256x256.size inb_S256x2048_S256x256_0_512, k0_pay41 (k0_pay35 c) (dcols w 512 inb_S512x2048_S512x256_0_512) (scols s 512 inb_S1x2048_S1x256_0_512) v2⟩,
    ⟨Rect.unit ![0, 256] S256x256.size inb_S256x2048_S256x256_0_256, k0_pay39 (k0_pay35 c) (k0_pay38 (dcols w 256 inb_S512x2048_S512x256_0_256) (scols s 256 inb_S1x2048_S1x256_0_256)) v1⟩,
    ⟨Rect.unit ![0, 0] S256x256.size inb_S256x2048_S256x256_0_0, k0_pay37 c (dcols w 0 inb_S512x2048_S512x256_0_0) (scols s 0 inb_S1x2048_S1x256_0_0) v0⟩]

/-! ## A chunk's codes are the whole block's codes there -/

theorem codes_rows (s : Vec Ideal S1x512 .f32) (w : Vec Ideal S2048x512 .bf16) (o : ℕ) (h) (x : S256x512.Idx) :
    codes (rows w o h) s x = codes w s ((Rect.unit (s := S2048x512) ![o, 0] S256x512.size h).emb x) := by
  have e : ((Rect.unit (s := S2048x512) ![o, 0] S256x512.size h).emb x) 1 = x 1 := by
    apply Fin.ext; show 0 + 1 * (x 1).val = (x 1).val; omega
  unfold codes; rw [e]; rfl

theorem codes_cols (s : Vec Ideal S1x2048 .f32) (w : Vec Ideal S512x2048 .bf16) (o : ℕ) (h) (h') (x : S512x256.Idx) :
    codes (dcols w o h) (scols s o h') x = codes w s ((Rect.unit (s := S512x2048) ![0, o] S512x256.size h).emb x) := by
  have e : (Rect.unit (s := S1x2048) ![0, o] S1x256.size h').idx (ix2 0 (x 1))
      = ix2 0 (((Rect.unit (s := S512x2048) ![0, o] S512x256.size h).emb x) 1) := by
    funext d; apply Fin.ext
    fin_cases d
    · rfl
    · rfl
  unfold codes
  show code4 (Ideal.div _ (s ((Rect.unit (s := S1x2048) ![0, o] S1x256.size h').idx (ix2 0 (x 1))))) = _
  rw [e]; rfl

theorem acc_cols (c : IVec S256x512 8) (s : Vec Ideal S1x2048 .f32) (w : Vec Ideal S512x2048 .bf16) (V : Vec Ideal S256x2048 .f32)
    (v : Vec Ideal S256x256 .f32) (o : ℕ) (h) (h') (h'') (hv : v = View.ld V (Rect.unit ![0, o] S256x256.size h'')) (x : S256x256.Idx) :
    accChunk c (dcols w o h) (scols s o h') v x
      = V ((Rect.unit (s := S256x2048) ![0, o] S256x256.size h'').emb x) + dot (vals c) (codes w s) ((Rect.unit (s := S256x2048) ![0, o] S256x256.size h'').emb x) := by
  subst hv
  unfold accChunk
  refine congrArg₂ (· + ·) rfl ?_
  unfold dot
  refine Finset.sum_congr rfl fun k _ => ?_
  rw [codes_cols]
  refine congrArg₂ (fun a b => vals c a * val (codes w s b)) ?_ ?_
  · funext d; apply Fin.ext
    fin_cases d
    · show (x 0).val = 0 + 1 * (x 0).val; omega
    · rfl
  · funext d; apply Fin.ext
    fin_cases d
    · show 0 + 1 * k.val = k.val; omega
    · rfl

/-! ## What the lists leave -/

/-- The stores of the gate codes fill the block. -/
theorem gateList_cover (s w) : ∀ y, ∃ p ∈ gateList s w, y ∈ p.1.set :=
  View.cover_of_tiledL (gateList s w) S256x512.size (by sl_kernel_rfl)

/-- The stores of the up codes fill the block. -/
theorem upList_cover (s w) : ∀ y, ∃ p ∈ upList s w, y ∈ p.1.set :=
  View.cover_of_tiledL (upList s w) S256x512.size (by sl_kernel_rfl)

/-- The stores of the down codes fill the block. -/
theorem downList_cover (s w) : ∀ y, ∃ p ∈ downList s w, y ∈ p.1.set :=
  View.cover_of_tiledL (downList s w) S512x256.size (by sl_kernel_rfl)

/-- The stores of the accumulator fill it. -/
theorem accList_cover (c s w v0 v1 v2 v3 v4 v5 v6 v7) : ∀ y, ∃ p ∈ accList c s w v0 v1 v2 v3 v4 v5 v6 v7, y ∈ p.1.set :=
  View.cover_of_tiledL (accList c s w v0 v1 v2 v3 v4 v5 v6 v7) S256x256.size (by sl_kernel_rfl)

/-- They leave the codes of the gate block. -/
theorem gateList_canon (s w) : View.canon (gateList s w) = codes w s := by
  funext y
  refine View.canon_apply_of_pieces (codes w s) (gateList s w) (View.PiecesOf.mem (And.intro ?_ ⟨?_, ?_, ?_, ?_, ?_, ?_, ?_, trivial⟩)) y (gateList_cover s w y) <;>
    intro x <;> simp only [pay5_eq, pay6_eq, pay8_eq, pay9_eq, pay11_eq, pay12_eq, pay13_eq, pay15_eq, pay16_eq] <;> exact codes_rows s w _ _ x

/-- They leave the codes of the up block. -/
theorem upList_canon (s w) : View.canon (upList s w) = codes w s := by
  funext y
  refine View.canon_apply_of_pieces (codes w s) (upList s w) (View.PiecesOf.mem (And.intro ?_ ⟨?_, ?_, ?_, ?_, ?_, ?_, ?_, trivial⟩)) y (upList_cover s w y) <;>
    intro x <;> simp only [pay18_eq, pay19_eq, pay20_eq, pay23_eq, pay24_eq, pay28_eq, pay29_eq, pay31_eq, pay32_eq] <;> exact codes_rows s w _ _ x

/-- They leave the codes of the down block. -/
theorem downList_canon (s w) : View.canon (downList s w) = codes w s := by
  funext y
  refine View.canon_apply_of_pieces (codes w s) (downList s w) (View.PiecesOf.mem (And.intro ?_ ⟨?_, ?_, ?_, ?_, ?_, ?_, ?_, trivial⟩)) y (downList_cover s w y) <;>
    intro x <;> simp only [pay36_eq, pay38_eq, pay40_eq, pay43_eq, pay45_eq, pay48_eq, pay51_eq, pay53_eq] <;> exact codes_cols s w _ _ _ x

/-- The accumulator after a pass over a block: what it held plus the product of the two grids of codes. -/
def accNext (c : IVec S256x512 8) (s : Vec Ideal S1x2048 .f32) (w : Vec Ideal S512x2048 .bf16) (V : Vec Ideal S256x2048 .f32) :
    Vec Ideal S256x2048 .f32 := fun y => V y + dot (vals c) (codes w s) y

/-- They leave, over any earlier stores, the accumulator `V` the chunks were loaded of, plus the product of the codes. -/
theorem accList_canon (c s w v0 v1 v2 v3 v4 v5 v6 v7) (V : Vec Ideal S256x2048 .f32) (L : List (View.Piece (Elt Ideal) S256x2048 .f32))
    (h0 : v0 = View.ld V (Rect.unit ![0, 0] S256x256.size inb_S256x2048_S256x256_0_0))
    (h1 : v1 = View.ld V (Rect.unit ![0, 256] S256x256.size inb_S256x2048_S256x256_0_256))
    (h2 : v2 = View.ld V (Rect.unit ![0, 512] S256x256.size inb_S256x2048_S256x256_0_512))
    (h3 : v3 = View.ld V (Rect.unit ![0, 768] S256x256.size inb_S256x2048_S256x256_0_768))
    (h4 : v4 = View.ld V (Rect.unit ![0, 1024] S256x256.size inb_S256x2048_S256x256_0_1024))
    (h5 : v5 = View.ld V (Rect.unit ![0, 1280] S256x256.size inb_S256x2048_S256x256_0_1280))
    (h6 : v6 = View.ld V (Rect.unit ![0, 1536] S256x256.size inb_S256x2048_S256x256_0_1536))
    (h7 : v7 = View.ld V (Rect.unit ![0, 1792] S256x256.size inb_S256x2048_S256x256_0_1792)) :
    View.canon (accList c s w v0 v1 v2 v3 v4 v5 v6 v7 ++ L) = accNext c s w V := by
  funext y
  refine View.canon_append_of_piecesOf (accNext c s w V) L (accList c s w v0 v1 v2 v3 v4 v5 v6 v7)
    (And.intro ?_ ⟨?_, ?_, ?_, ?_, ?_, ?_, ?_, trivial⟩) y (accList_cover c s w v0 v1 v2 v3 v4 v5 v6 v7 y) <;>
    intro x <;> simp only [pay37_eq, pay39_eq, pay41_eq, pay44_eq, pay47_eq, pay49_eq, pay52_eq, pay54_eq]
  · exact acc_cols c s w V _ _ _ _ _ h7 x
  · exact acc_cols c s w V _ _ _ _ _ h6 x
  · exact acc_cols c s w V _ _ _ _ _ h5 x
  · exact acc_cols c s w V _ _ _ _ _ h4 x
  · exact acc_cols c s w V _ _ _ _ _ h3 x
  · exact acc_cols c s w V _ _ _ _ _ h2 x
  · exact acc_cols c s w V _ _ _ _ _ h1 x
  · exact acc_cols c s w V _ _ _ _ _ h0 x

end Cert.KernelIdeal.Body
-- ==== Proof.Body.Data.lean ====
/-
  What the pipeline's buffers hold after each grid point, written with the functions of `Math/Grid`: the proof data of the
  one pipeline, and what it says window by window.
-/
module

public import proofs.«01_k».proof.Proof.Body.Kit
public import proofs.«01_k».proof.Proof.Body.Lists
public import Idealize.ShloMosaic.Lib.Pipeline.TableIdle

@[expose] public noncomputable section

set_option maxRecDepth 16384

namespace Cert.KernelIdeal.Body

open Cert.KernelIdeal.Gen Cert.Mlp
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (c : Dev nD)

/-- The first point of the grid. -/
abbrev first : Fin cfg0.N := ⟨0, by rw [show cfg0.N = 16 from N_0]; decide⟩

/-! ## The blocks a point reads -/

/-- The input's block. -/
abbrev xB (t : Fin cfg0.N) : Vec Ideal S256x2048 .bf16 := iblk m c 0 t
/-- The norm's weights. -/
abbrev nB (t : Fin cfg0.N) : Vec Ideal S1x2048 .f32 := iblk m c 1 t
/-- The gate weights' columns at a point. -/
abbrev gB (t : Fin cfg0.N) : Vec Ideal S2048x512 .bf16 := iblk m c 2 t
/-- The up weights' columns at a point. -/
abbrev uB (t : Fin cfg0.N) : Vec Ideal S2048x512 .bf16 := iblk m c 3 t
/-- The down weights' rows at a point. -/
abbrev wB (t : Fin cfg0.N) : Vec Ideal S512x2048 .bf16 := iblk m c 4 t
/-- The gate scales at a point. -/
abbrev sgB (t : Fin cfg0.N) : Vec Ideal S1x512 .f32 := iblk m c 5 t
/-- The up scales at a point. -/
abbrev suB (t : Fin cfg0.N) : Vec Ideal S1x512 .f32 := iblk m c 6 t
/-- The down scales. -/
abbrev sdB (t : Fin cfg0.N) : Vec Ideal S1x2048 .f32 := iblk m c 7 t
/-- The first activation scale. -/
abbrev d1B (t : Fin cfg0.N) : EReal := (iblk m c 8 t : Vec Ideal S1x1 .f32) (ix2 0 0)
/-- The second activation scale. -/
abbrev d2B (t : Fin cfg0.N) : EReal := (iblk m c 9 t : Vec Ideal S1x1 .f32) (ix2 0 0)

/-! ## What a point leaves -/

/-- The codes of the normed input, made at the first point. -/
def actCodes : Vec Ideal S256x2048 .i8 := codesBy (normed (xB m c first) (nB m c first)) (d1B m c first)

/-- The gated activation's columns of a point. -/
def gatedAt (t : Fin cfg0.N) : Vec Ideal S256x512 .f32 :=
  gated (vals (actCodes m c)) (gB m c t) (uB m c t) (sgB m c t) (suB m c t) (d1B m c t)

/-- Its codes. -/
def midAt (t : Fin cfg0.N) : Vec Ideal S256x512 .i8 := codesBy (gatedAt m c t) (d2B m c t)

/-- The accumulator after point `n`: the down products of the points so far. -/
def accAt : (n : ℕ) → n < cfg0.N → Vec Ideal S256x2048 .f32
  | 0, hn => accNext (midAt m c ⟨0, hn⟩) (sdB m c ⟨0, hn⟩) (wB m c ⟨0, hn⟩) (fun _ => 0)
  | n + 1, hn => accNext (midAt m c ⟨n + 1, hn⟩) (sdB m c ⟨n + 1, hn⟩) (wB m c ⟨n + 1, hn⟩) (accAt n (Nat.lt_of_succ_lt hn))

/-- What the region keeps between points: before the first point nothing is known of its scratch, after it the activation
    and the accumulator. -/
def PhiS : (n : ℕ) → n ≤ cfg0.N → sProp 𝕄
  | 0, _ => Pipeline.ΦA spec0 c
  | n + 1, hn => iprop(iprop(owns (c : Thread nD τ) scM0_0 fullShare (vals (actCodes m c) : Vec Ideal S256x2048 .bf16)
      ∗ owns (c : Thread nD τ) scM0_1 fullShare (accAt m c n hn)) ∗ (∃ r, prngReg c r))

/-- The proof data of the pipeline on one core. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outp (xB m c t) (accAt m c t.val t.isLt) (sdB m c t) (d2B m c t)
    | ⟨11, _⟩ => gatedAt m c t
    | ⟨12, _⟩ => actCodes m c
    | ⟨13, _⟩ => codes (gB m c t) (sgB m c t)
    | ⟨14, _⟩ => codes (uB m c t) (suB m c t)
    | ⟨15, _⟩ => midAt m c t
    | ⟨16, _⟩ => codes (wB m c t) (sdB m c t)
    | ⟨_ + 17, h⟩ => absurd h (Nat.not_lt.2 (Nat.le_add_left _ _))
  Φ t := PhiS m c t.val (Nat.le_of_lt_succ t.isLt)
  q _ := fullShare
  owed _ := 0

/-- The data's arrays are the ones the region finds. -/
theorem A_eq (w : Fin cfg0.W) : (dats m 0 c).A w = V m c (Pipeline.arrRef spec0 w) := by
  dsimp only [dats]

/-- The invariant at a point's start. -/
theorem PhiS_castSucc (t : Fin cfg0.N) : (dats m 0 c).Φ t.castSucc = PhiS m c t.val (Nat.le_of_lt t.isLt) := by
  dsimp only [dats]; exact Pipeline.Dat.Φ_castSucc (PhiS m c) t

/-! ## Window by window -/

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = iblk m c 6 t := by dsimp only [dats]
theorem after0_7 (t : Fin cfg0.N) : (dats m 0 c).after 7 t = iblk m c 7 t := by dsimp only [dats]
theorem after0_8 (t : Fin cfg0.N) : (dats m 0 c).after 8 t = iblk m c 8 t := by dsimp only [dats]
theorem after0_9 (t : Fin cfg0.N) : (dats m 0 c).after 9 t = iblk m c 9 t := by dsimp only [dats]
theorem after0_10 (t : Fin cfg0.N) : (dats m 0 c).after 10 t
    = outp (xB m c t) (accAt m c t.val t.isLt) (sdB m c t) (d2B m c t) := by dsimp only [dats]
theorem after0_11 (t : Fin cfg0.N) : (dats m 0 c).after 11 t = gatedAt m c t := by dsimp only [dats]
theorem after0_12 (t : Fin cfg0.N) : (dats m 0 c).after 12 t = actCodes m c := by dsimp only [dats]
theorem after0_13 (t : Fin cfg0.N) : (dats m 0 c).after 13 t = codes (gB m c t) (sgB m c t) := by dsimp only [dats]
theorem after0_14 (t : Fin cfg0.N) : (dats m 0 c).after 14 t = codes (uB m c t) (suB m c t) := by dsimp only [dats]
theorem after0_15 (t : Fin cfg0.N) : (dats m 0 c).after 15 t = midAt m c t := by dsimp only [dats]
theorem after0_16 (t : Fin cfg0.N) : (dats m 0 c).after 16 t = codes (wB m c t) (sdB m c t) := by dsimp only [dats]

/-! Each input's buffer holds its block at every point. -/

theorem before0_0 (t : Fin cfg0.N) (d) : (dats m 0 c).before 0 t d = iblk m c 0 t :=
  before0_0_of m (dats m 0 c) (A_eq m c 0) (after0_0 m c) t d
theorem before0_1 (t : Fin cfg0.N) (d) : (dats m 0 c).before 1 t d = iblk m c 1 t :=
  before0_1_of m (dats m 0 c) (A_eq m c 1) (after0_1 m c) t d
theorem before0_2 (t : Fin cfg0.N) (d) : (dats m 0 c).before 2 t d = iblk m c 2 t :=
  before0_2_of m (dats m 0 c) (A_eq m c 2) (after0_2 m c) t d
theorem before0_3 (t : Fin cfg0.N) (d) : (dats m 0 c).before 3 t d = iblk m c 3 t :=
  before0_3_of m (dats m 0 c) (A_eq m c 3) (after0_3 m c) t d
theorem before0_4 (t : Fin cfg0.N) (d) : (dats m 0 c).before 4 t d = iblk m c 4 t :=
  before0_4_of m (dats m 0 c) (A_eq m c 4) (after0_4 m c) t d
theorem before0_5 (t : Fin cfg0.N) (d) : (dats m 0 c).before 5 t d = iblk m c 5 t :=
  before0_5_of m (dats m 0 c) (A_eq m c 5) (after0_5 m c) t d
theorem before0_6 (t : Fin cfg0.N) (d) : (dats m 0 c).before 6 t d = iblk m c 6 t :=
  before0_6_of m (dats m 0 c) (A_eq m c 6) (after0_6 m c) t d
theorem before0_7 (t : Fin cfg0.N) (d) : (dats m 0 c).before 7 t d = iblk m c 7 t :=
  before0_7_of m (dats m 0 c) (A_eq m c 7) (after0_7 m c) t d
theorem before0_8 (t : Fin cfg0.N) (d) : (dats m 0 c).before 8 t d = iblk m c 8 t :=
  before0_8_of m (dats m 0 c) (A_eq m c 8) (after0_8 m c) t d
theorem before0_9 (t : Fin cfg0.N) (d) : (dats m 0 c).before 9 t d = iblk m c 9 t :=
  before0_9_of m (dats m 0 c) (A_eq m c 9) (after0_9 m c) t d

/-- Past the first point the buffer of the activation's codes has been filled and not written back. -/
theorem fresh_12 : ∀ t : Fin cfg0.N, t.val ≠ 0 → cfg0.fresh 12 t.val = false := by decide +kernel

/-- Past the first point the buffer of the activation's codes holds them. -/
theorem before0_12 (t : Fin cfg0.N) (ht : t.val ≠ 0) (d) : (dats m 0 c).before 12 t d = actCodes m c := by
  rw [(dats m 0 c).before_out_traj 12 rfl (fun _ _ => rfl) (fun t _ _ _ => by rw [after0_12, after0_12]) t.val t rfl d,
    fresh_12 t ht]
  exact after0_12 m c _

/-- What a window that is not idle at a point leaves there is what the data says. -/
theorem leaves_live (w : Fin cfg0.W) (t : Fin cfg0.N) (h : cfg0.idle w (cfg0.grid.coords t) = false) :
    (dats m 0 c).leavesExact w t
      = owns (c : Thread nD τ) ((cfg0.win w).stage (cfg0.slots t w)) fullShare ((dats m 0 c).after w t) := by
  unfold Dat.leavesExact; rw [h]

/-- The activation's codes at the last point: the point stores nothing there, the write-back takes what the buffer holds. -/
theorem leaves_12_C (t : Fin cfg0.N) (h0 : ¬cond0_0 (grid0.coords t)) (h1 : cond0_1 (grid0.coords t)) :
    (dats m 0 c).leavesExact 12 t = owns (c : Thread nD τ) (ms0_12 t) fullShare ((dats m 0 c).after 12 t) := by
  have hf : (cfg0.win 12).flush t = true := by
    have : ∀ t : Fin cfg0.N, cond0_1 (grid0.coords t) → (cfg0.win 12).flush t = true := by decide +kernel
    exact this t h1
  unfold Dat.leavesExact; rw [idleAt0_12_C t h0 h1, hf]

end Cert.KernelIdeal.Body
-- ==== Proof.Body.RunA.lean ====
/- The kernel body run at the first grid point: its triple, with the stores each buffer ends with. -/
module

public import proofs.«01_k».proof.Proof.Body.Kit

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .smem S1x1 .f32) (harg9 : arg9.IsWhole) (arg10 : Memref sig .tc .smem S1x1 .f32) (harg10 : arg10.IsWhole) (arg11 : Memref sig .tc .vmem S256x2048 .bf16) (harg11 : arg11.IsWhole) (arg12 : Memref sig .tc .vmem S256x512 .f32) (harg12 : arg12.IsWhole) (arg13 : Memref sig .tc .vmem S256x2048 .i8) (harg13 : arg13.IsWhole) (arg14 : Memref sig .tc .vmem S2048x512 .i8) (harg14 : arg14.IsWhole) (arg15 : Memref sig .tc .vmem S2048x512 .i8) (harg15 : arg15.IsWhole) (arg16 : Memref sig .tc .vmem S256x512 .i8) (harg16 : arg16.IsWhole) (arg17 : Memref sig .tc .vmem S512x2048 .i8) (harg17 : arg17.IsWhole) (arg18 : Memref sig .tc .vmem S256x2048 .bf16) (harg18 : arg18.IsWhole) (arg19 : Memref sig .tc .vmem S256x2048 .f32) (harg19 : arg19.IsWhole) (hc0 : cond0_0 i) (hc1 : ¬cond0_1 i)
    (x0 : Vec F S256x2048 .bf16) (x1 : Vec F S1x2048 .f32) (x2 : Vec F S2048x512 .bf16) (x3 : Vec F S2048x512 .bf16) (x4 : Vec F S512x2048 .bf16) (x5 : Vec F S1x512 .f32) (x6 : Vec F S1x512 .f32) (x7 : Vec F S1x2048 .f32) (x8 : Vec F S1x1 .f32) (x9 : Vec F S1x1 .f32) :
    Σ' (L10 : List (View.Piece (Elt F) S256x2048 .bf16)), Σ' (L11 : List (View.Piece (Elt F) S256x512 .f32)), Σ' (L12 : List (View.Piece (Elt F) S256x2048 .i8)), Σ' (L13 : List (View.Piece (Elt F) S2048x512 .i8)), Σ' (L14 : List (View.Piece (Elt F) S2048x512 .i8)), Σ' (L15 : List (View.Piece (Elt F) S256x512 .i8)), Σ' (L16 : List (View.Piece (Elt F) S512x2048 .i8)), Σ' (LS0 : List (View.Piece (Elt F) S256x2048 .bf16)), { LS1 : List (View.Piece (Elt F) S256x2048 .f32) //
      ∀ (xi10 : Vec F S256x2048 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0_lsq_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], ?_, ?_, ?_, ?_, ?_, ?_, ?_, ?_, fun xi10 E K => ?run⟩
  case run =>
    simp only [cc0_lsq_mlp_eq_skeleton]; unfold cc0_lsq_mlp_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexists _; iexact HS0
    iexists _; iexact HS1

end Cert.KernelIdeal.Body

end
-- ==== Proof.Body.Leave.lean ====
/-
  A buffer whose stores fill it, held at the contents the stores leave.
-/
module

public import proofs.«01_k».proof.Proof.Body.Kit
public import Idealize.ShloMosaic.Lib.Pipeline.ValueKit
public import Idealize.ShloMosaic.Lib.Pointwise

@[expose] public noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- Stores that fill the buffer leave it owned at their canon, whatever it held. -/
theorem owns_of_stores {c : Dev nD} {sp : Space} {S : Shape} {e : EltTy} (a : Memref sig .tc sp S e)
    (L : List (View.Piece (Elt Ideal) S e)) (X : S.Idx → Elt Ideal e) (hc : ∀ y, ∃ p ∈ L, y ∈ p.1.set) (hX : View.canon L = X) :
    (iprop(∃ f, a.view.loc (c : Thread nD τ) ↦[a.view.set]{fullShare} a.view.writes (Elt Ideal) f L) : sProp 𝕄)
      ⊢ owns (c : Thread nD τ) a fullShare X := by
  iintro ⟨%f, H⟩
  unfold owns
  iexists _; isplitr
  swap; · iexact H
  ipureintro
  exact (View.read_writes_eq_canon _ _ _ hc).trans hX

/-- The offset of a whole two-dimensional block. -/
theorem off_zero : (![0, 0] : Fin 2 → ℕ) = fun _ => 0 := by funext a; fin_cases a <;> rfl

/-- One store of the whole block fills it, -/
theorem whole_cover {S : Shape} {e : EltTy} {off : Fin S.rank → ℕ} (h : off = fun _ => 0) (inb : ∀ a, off a + S.size a ≤ S.size a)
    (w : S.Idx → Elt Ideal e) (y : S.Idx) : ∃ p ∈ [(⟨Rect.unit off S.size inb, w⟩ : View.Piece (Elt Ideal) S e)], y ∈ p.1.set :=
  ⟨_, List.mem_singleton_self _, View.mem_set_unit_zero h inb y⟩

/-- and leaves what it stores. -/
theorem whole_canon {S : Shape} {e : EltTy} {off : Fin S.rank → ℕ} (h : off = fun _ => 0) (inb : ∀ a, off a + S.size a ≤ S.size a)
    (w : S.Idx → Elt Ideal e) : View.canon [(⟨Rect.unit off S.size inb, w⟩ : View.Piece (Elt Ideal) S e)] = w :=
  View.canon_unit_zero h inb w

/-- Stores followed by earlier ones still fill the buffer the later ones fill. -/
theorem cover_append {S : Shape} {e : EltTy} (L L' : List (View.Piece (Elt Ideal) S e)) (h : ∀ y, ∃ p ∈ L, y ∈ p.1.set) (y : S.Idx) :
    ∃ p ∈ L ++ L', y ∈ p.1.set := by
  obtain ⟨p, hp, hy⟩ := h y
  exact ⟨p, List.mem_append_left _ hp, hy⟩

/-- A load of a whole block reads the block: the scales of a gate or up block, -/
theorem ld_S1x512 (x : Vec Ideal S1x512 .f32) (h) : View.ld x (Rect.unit ![0, 0] (no_index S1x512.size) h) = x :=
  View.ld_unit_zero off_zero h x

/-- the scales of the down weights, -/
theorem ld_S1x2048 (x : Vec Ideal S1x2048 .f32) (h) : View.ld x (Rect.unit ![0, 0] (no_index S1x2048.size) h) = x :=
  View.ld_unit_zero off_zero h x

/-- the input, -/
theorem ld_S256x2048 (x : Vec Ideal S256x2048 .bf16) (h) : View.ld x (Rect.unit ![0, 0] (no_index S256x2048.size) h) = x :=
  View.ld_unit_zero off_zero h x

/-- the accumulator. -/
theorem ld_S256x2048_f32 (x : Vec Ideal S256x2048 .f32) (h) : View.ld x (Rect.unit ![0, 0] (no_index S256x2048.size) h) = x :=
  View.ld_unit_zero off_zero h x

/-- The only index of a one-element block. -/
theorem idx_one (y : S1x1.Idx) : y = ix2 0 0 := by
  funext d; apply Fin.ext
  fin_cases d
  · exact Nat.lt_one_iff.mp (y 0).isLt
  · exact Nat.lt_one_iff.mp (y 1).isLt

end Cert.KernelIdeal.Body
-- ==== Proof.Body.StepA.lean ====
/-
  The first grid point's pass of the body: what it leaves in every buffer, as functions of what it read.
-/
module

public import proofs.«01_k».proof.Proof.Body.RunA
public import proofs.«01_k».proof.Proof.Body.Lists
public import proofs.«01_k».proof.Proof.Body.Leave

@[expose] public noncomputable section

set_option maxRecDepth 16384

namespace Cert.KernelIdeal.Body

open Cert.KernelIdeal.Gen Cert.Mlp
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .smem S1x1 .f32) (harg9 : arg9.IsWhole) (arg10 : Memref sig .tc .smem S1x1 .f32) (harg10 : arg10.IsWhole) (arg11 : Memref sig .tc .vmem S256x2048 .bf16) (harg11 : arg11.IsWhole) (arg12 : Memref sig .tc .vmem S256x512 .f32) (harg12 : arg12.IsWhole) (arg13 : Memref sig .tc .vmem S256x2048 .i8) (harg13 : arg13.IsWhole) (arg14 : Memref sig .tc .vmem S2048x512 .i8) (harg14 : arg14.IsWhole) (arg15 : Memref sig .tc .vmem S2048x512 .i8) (harg15 : arg15.IsWhole) (arg16 : Memref sig .tc .vmem S256x512 .i8) (harg16 : arg16.IsWhole) (arg17 : Memref sig .tc .vmem S512x2048 .i8) (harg17 : arg17.IsWhole) (arg18 : Memref sig .tc .vmem S256x2048 .bf16) (harg18 : arg18.IsWhole) (arg19 : Memref sig .tc .vmem S256x2048 .f32) (harg19 : arg19.IsWhole) (hc0 : cond0_0 i) (hc1 : ¬cond0_1 i)
  (x0 : Vec Ideal S256x2048 .bf16) (x1 : Vec Ideal S1x2048 .f32) (x2 : Vec Ideal S2048x512 .bf16) (x3 : Vec Ideal S2048x512 .bf16) (x4 : Vec Ideal S512x2048 .bf16) (x5 : Vec Ideal S1x512 .f32) (x6 : Vec Ideal S1x512 .f32) (x7 : Vec Ideal S1x2048 .f32) (x8 : Vec Ideal S1x1 .f32) (x9 : Vec Ideal S1x1 .f32)

/-- The store of the activation: one, of the whole block. -/
theorem piecesA_11 :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.1
      = [⟨Rect.unit ![0, 0] S256x512.size inb_S256x512_S256x512_0_0, gatedTerm ((arg9.view.read (Elt Ideal) (harg9.unread x8)) ((Rect.unit ![0, 0] S1x1.size inb_S1x1_S1x1_0_0).idx (Shape.Idx.first (by decide)))) (gateTerm ((arg9.view.read (Elt Ideal) (harg9.unread x8)) ((Rect.unit ![0, 0] S1x1.size inb_S1x1_S1x1_0_0).idx (Shape.Idx.first (by decide)))) (View.ld (arg6.view.read (Elt Ideal) (harg6.unread x5)) (Rect.unit ![0, 0] S1x512.size inb_S1x512_S1x512_0_0)) (arg3.view.read (Elt Ideal) (harg3.unread x2)) (arg18.view.read (Elt Ideal) (arg18.view.writes (Elt Ideal) arg18.view.junk (kernelRun0_A.sl.HS0_1 c arg1 harg1 arg2 harg2 arg9 harg9 x0 x1 x8)))) (View.ld (arg7.view.read (Elt Ideal) (harg7.unread x6)) (Rect.unit ![0, 0] S1x512.size inb_S1x512_S1x512_0_0)) (arg4.view.read (Elt Ideal) (harg4.unread x3)) (arg18.view.read (Elt Ideal) (arg18.view.writes (Elt Ideal) arg18.view.junk (kernelRun0_A.sl.HS0_1 c arg1 harg1 arg2 harg2 arg9 harg9 x0 x1 x8)))⟩] := by sl_kernel_rfl

/-- The stores of the gate codes. -/
theorem piecesA_13 :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.2.1
      = gateList (View.ld (arg6.view.read (Elt Ideal) (harg6.unread x5)) (Rect.unit ![0, 0] S1x512.size inb_S1x512_S1x512_0_0)) (arg3.view.read (Elt Ideal) (harg3.unread x2)) := by sl_kernel_rfl

/-- The stores of the up codes. -/
theorem piecesA_14 :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.2.2.1
      = upList (View.ld (arg7.view.read (Elt Ideal) (harg7.unread x6)) (Rect.unit ![0, 0] S1x512.size inb_S1x512_S1x512_0_0)) (arg4.view.read (Elt Ideal) (harg4.unread x3)) := by sl_kernel_rfl

/-- The store of the codes of the activation. -/
theorem piecesA_15 :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.2.2.2.1
      = [⟨Rect.unit ![0, 0] S256x512.size inb_S256x512_S256x512_0_0, (midTerm ((arg9.view.read (Elt Ideal) (harg9.unread x8)) ((Rect.unit ![0, 0] S1x1.size inb_S1x1_S1x1_0_0).idx (Shape.Idx.first (by decide)))) ((arg10.view.read (Elt Ideal) (harg10.unread x9)) ((Rect.unit ![0, 0] S1x1.size inb_S1x1_S1x1_0_0).idx (Shape.Idx.first (by decide)))) (gateTerm ((arg9.view.read (Elt Ideal) (harg9.unread x8)) ((Rect.unit ![0, 0] S1x1.size inb_S1x1_S1x1_0_0).idx (Shape.Idx.first (by decide)))) (View.ld (arg6.view.read (Elt Ideal) (harg6.unread x5)) (Rect.unit ![0, 0] S1x512.size inb_S1x512_S1x512_0_0)) (arg3.view.read (Elt Ideal) (harg3.unread x2)) (arg18.view.read (Elt Ideal) (arg18.view.writes (Elt Ideal) arg18.view.junk (kernelRun0_A.sl.HS0_1 c arg1 harg1 arg2 harg2 arg9 harg9 x0 x1 x8)))) (View.ld (arg7.view.read (Elt Ideal) (harg7.unread x6)) (Rect.unit ![0, 0] S1x512.size inb_S1x512_S1x512_0_0)) (arg4.view.read (Elt Ideal) (harg4.unread x3)) (arg18.view.read (Elt Ideal) (arg18.view.writes (Elt Ideal) arg18.view.junk (kernelRun0_A.sl.HS0_1 c arg1 harg1 arg2 harg2 arg9 harg9 x0 x1 x8))))⟩] := by sl_kernel_rfl

/-- The stores of the down codes. -/
theorem piecesA_16 :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.2.2.2.2.1
      = downList (arg8.view.read (Elt Ideal) (harg8.unread x7)) (arg5.view.read (Elt Ideal) (harg5.unread x4)) := by sl_kernel_rfl

/-- The store of the codes of the normalised input. -/
theorem piecesA_12 :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.1
      = [⟨Rect.unit ![0, 0] S256x2048.size inb_S256x2048_S256x2048_0_0, k0_pay2 ((arg9.view.read (Elt Ideal) (harg9.unread x8)) ((Rect.unit ![0, 0] S1x1.size inb_S1x1_S1x1_0_0).idx (Shape.Idx.first (by decide)))) (View.ld (arg1.view.read (Elt Ideal) (harg1.unread x0)) (Rect.unit ![0, 0] S256x2048.size inb_S256x2048_S256x2048_0_0)) (View.ld (arg2.view.read (Elt Ideal) (harg2.unread x1)) (Rect.unit ![0, 0] S1x2048.size inb_S1x2048_S1x2048_0_0))⟩] := by sl_kernel_rfl

/-- The store of the same codes as numbers. -/
theorem piecesA_act :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.2.2.2.2.2.1
      = [⟨Rect.unit ![0, 0] S256x2048.size inb_S256x2048_S256x2048_0_0, (k0_pay3 ((arg9.view.read (Elt Ideal) (harg9.unread x8)) ((Rect.unit ![0, 0] S1x1.size inb_S1x1_S1x1_0_0).idx (Shape.Idx.first (by decide)))) (View.ld (arg1.view.read (Elt Ideal) (harg1.unread x0)) (Rect.unit ![0, 0] S256x2048.size inb_S256x2048_S256x2048_0_0)) (View.ld (arg2.view.read (Elt Ideal) (harg2.unread x1)) (Rect.unit ![0, 0] S1x2048.size inb_S1x2048_S1x2048_0_0)))⟩] := by sl_kernel_rfl

/-- The list the later loads of the activation name. -/
theorem storesA_act :
    kernelRun0_A.sl.HS0_1 c arg1 harg1 arg2 harg2 arg9 harg9 x0 x1 x8
      = [⟨Rect.unit ![0, 0] S256x2048.size inb_S256x2048_S256x2048_0_0, (k0_pay3 ((arg9.view.read (Elt Ideal) (harg9.unread x8)) ((Rect.unit ![0, 0] S1x1.size inb_S1x1_S1x1_0_0).idx (Shape.Idx.first (by decide)))) (View.ld (arg1.view.read (Elt Ideal) (harg1.unread x0)) (Rect.unit ![0, 0] S256x2048.size inb_S256x2048_S256x2048_0_0)) (View.ld (arg2.view.read (Elt Ideal) (harg2.unread x1)) (Rect.unit ![0, 0] S1x2048.size inb_S1x2048_S1x2048_0_0)))⟩] := by sl_kernel_rfl

/-- The stores of the accumulator: the zeros, then the eight chunks. -/
theorem piecesA_acc :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.2.2.2.2.2.2.1
      = accList (midTerm ((arg9.view.read (Elt Ideal) (harg9.unread x8)) ((Rect.unit ![0, 0] S1x1.size inb_S1x1_S1x1_0_0).idx (Shape.Idx.first (by decide)))) ((arg10.view.read (Elt Ideal) (harg10.unread x9)) ((Rect.unit ![0, 0] S1x1.size inb_S1x1_S1x1_0_0).idx (Shape.Idx.first (by decide)))) (gateTerm ((arg9.view.read (Elt Ideal) (harg9.unread x8)) ((Rect.unit ![0, 0] S1x1.size inb_S1x1_S1x1_0_0).idx (Shape.Idx.first (by decide)))) (View.ld (arg6.view.read (Elt Ideal) (harg6.unread x5)) (Rect.unit ![0, 0] S1x512.size inb_S1x512_S1x512_0_0)) (arg3.view.read (Elt Ideal) (harg3.unread x2)) (arg18.view.read (Elt Ideal) (arg18.view.writes (Elt Ideal) arg18.view.junk (kernelRun0_A.sl.HS0_1 c arg1 harg1 arg2 harg2 arg9 harg9 x0 x1 x8)))) (View.ld (arg7.view.read (Elt Ideal) (harg7.unread x6)) (Rect.unit ![0, 0] S1x512.size inb_S1x512_S1x512_0_0)) (arg4.view.read (Elt Ideal) (harg4.unread x3)) (arg18.view.read (Elt Ideal) (arg18.view.writes (Elt Ideal) arg18.view.junk (kernelRun0_A.sl.HS0_1 c arg1 harg1 arg2 harg2 arg9 harg9 x0 x1 x8)))) (arg8.view.read (Elt Ideal) (harg8.unread x7)) (arg5.view.read (Elt Ideal) (harg5.unread x4))
        (kernelRun0_A.sl.v318 (F := Ideal) c arg19)
        (kernelRun0_A.sl.v340 (F := Ideal) c arg1 harg1 arg2 harg2 arg3 harg3 arg4 harg4 arg5 harg5 arg6 harg6 arg7 harg7 arg8 harg8 arg9 harg9 arg10 harg10 arg18 arg19 x0 x1 x2 x3 x4 x5 x6 x7 x8 x9)
        (kernelRun0_A.sl.v362 (F := Ideal) c arg1 harg1 arg2 harg2 arg3 harg3 arg4 harg4 arg5 harg5 arg6 harg6 arg7 harg7 arg8 harg8 arg9 harg9 arg10 harg10 arg18 arg19 x0 x1 x2 x3 x4 x5 x6 x7 x8 x9)
        (kernelRun0_A.sl.v384 (F := Ideal) c arg1 harg1 arg2 harg2 arg3 harg3 arg4 harg4 arg5 harg5 arg6 harg6 arg7 harg7 arg8 harg8 arg9 harg9 arg10 harg10 arg18 arg19 x0 x1 x2 x3 x4 x5 x6 x7 x8 x9)
        (kernelRun0_A.sl.v406 (F := Ideal) c arg1 harg1 arg2 harg2 arg3 harg3 arg4 harg4 arg5 harg5 arg6 harg6 arg7 harg7 arg8 harg8 arg9 harg9 arg10 harg10 arg18 arg19 x0 x1 x2 x3 x4 x5 x6 x7 x8 x9)
        (kernelRun0_A.sl.v428 (F := Ideal) c arg1 harg1 arg2 harg2 arg3 harg3 arg4 harg4 arg5 harg5 arg6 harg6 arg7 harg7 arg8 harg8 arg9 harg9 arg10 harg10 arg18 arg19 x0 x1 x2 x3 x4 x5 x6 x7 x8 x9)
        (kernelRun0_A.sl.v450 (F := Ideal) c arg1 harg1 arg2 harg2 arg3 harg3 arg4 harg4 arg5 harg5 arg6 harg6 arg7 harg7 arg8 harg8 arg9 harg9 arg10 harg10 arg18 arg19 x0 x1 x2 x3 x4 x5 x6 x7 x8 x9)
        (kernelRun0_A.sl.v472 (F := Ideal) c arg1 harg1 arg2 harg2 arg3 harg3 arg4 harg4 arg5 harg5 arg6 harg6 arg7 harg7 arg8 harg8 arg9 harg9 arg10 harg10 arg18 arg19 x0 x1 x2 x3 x4 x5 x6 x7 x8 x9) ++ [⟨Rect.unit ![0, 0] S256x2048.size inb_S256x2048_S256x2048_0_0, k0_pay4 (F := Ideal)⟩] := by sl_kernel_rfl

/-- A chunk of the accumulator loaded after the zeros were stored and before the chunk itself was. -/
theorem loadA_0 :
    (kernelRun0_A.sl.v318 (F := Ideal) c arg19) = View.ld (k0_pay4 (F := Ideal)) (Rect.unit (s := S256x2048) ![0, 0] S256x256.size inb_S256x2048_S256x256_0_0) := by
  simp (disch := decide) only [kernelRun0_A.sl.v318, kernelRun0_A.sl.HS1_1, ↓ View.readCov_skip]
  exact View.readCov_fill _ _ _ _ _ (by decide)

/-- A chunk of the accumulator loaded after the zeros were stored and before the chunk itself was. -/
theorem loadA_256 :
    (kernelRun0_A.sl.v340 (F := Ideal) c arg1 harg1 arg2 harg2 arg3 harg3 arg4 harg4 arg5 harg5 arg6 harg6 arg7 harg7 arg8 harg8 arg9 harg9 arg10 harg10 arg18 arg19 x0 x1 x2 x3 x4 x5 x6 x7 x8 x9) = View.ld (k0_pay4 (F := Ideal)) (Rect.unit (s := S256x2048) ![0, 256] S256x256.size inb_S256x2048_S256x256_0_256) := by
  simp (disch := decide) only [kernelRun0_A.sl.v340, kernelRun0_A.sl.HS1_2, kernelRun0_A.sl.HS1_1, ↓ View.readCov_skip]
  exact View.readCov_fill _ _ _ _ _ (by decide)

/-- A chunk of the accumulator loaded after the zeros were stored and before the chunk itself was. -/
theorem loadA_512 :
    (kernelRun0_A.sl.v362 (F := Ideal) c arg1 harg1 arg2 harg2 arg3 harg3 arg4 harg4 arg5 harg5 arg6 harg6 arg7 harg7 arg8 harg8 arg9 harg9 arg10 harg10 arg18 arg19 x0 x1 x2 x3 x4 x5 x6 x7 x8 x9) = View.ld (k0_pay4 (F := Ideal)) (Rect.unit (s := S256x2048) ![0, 512] S256x256.size inb_S256x2048_S256x256_0_512) := by
  simp (disch := decide) only [kernelRun0_A.sl.v362, kernelRun0_A.sl.HS1_3, kernelRun0_A.sl.HS1_2, kernelRun0_A.sl.HS1_1, ↓ View.readCov_skip]
  exact View.readCov_fill _ _ _ _ _ (by decide)

/-- A chunk of the accumulator loaded after the zeros were stored and before the chunk itself was. -/
theorem loadA_768 :
    (kernelRun0_A.sl.v384 (F := Ideal) c arg1 harg1 arg2 harg2 arg3 harg3 arg4 harg4 arg5 harg5 arg6 harg6 arg7 harg7 arg8 harg8 arg9 harg9 arg10 harg10 arg18 arg19 x0 x1 x2 x3 x4 x5 x6 x7 x8 x9) = View.ld (k0_pay4 (F := Ideal)) (Rect.unit (s := S256x2048) ![0, 768] S256x256.size inb_S256x2048_S256x256_0_768) := by
  simp (disch := decide) only [kernelRun0_A.sl.v384, kernelRun0_A.sl.HS1_4, kernelRun0_A.sl.HS1_3, kernelRun0_A.sl.HS1_2, kernelRun0_A.sl.HS1_1, ↓ View.readCov_skip]
  exact View.readCov_fill _ _ _ _ _ (by decide)

/-- A chunk of the accumulator loaded after the zeros were stored and before the chunk itself was. -/
theorem loadA_1024 :
    (kernelRun0_A.sl.v406 (F := Ideal) c arg1 harg1 arg2 harg2 arg3 harg3 arg4 harg4 arg5 harg5 arg6 harg6 arg7 harg7 arg8 harg8 arg9 harg9 arg10 harg10 arg18 arg19 x0 x1 x2 x3 x4 x5 x6 x7 x8 x9) = View.ld (k0_pay4 (F := Ideal)) (Rect.unit (s := S256x2048) ![0, 1024] S256x256.size inb_S256x2048_S256x256_0_1024) := by
  simp (disch := decide) only [kernelRun0_A.sl.v406, kernelRun0_A.sl.HS1_5, kernelRun0_A.sl.HS1_4, kernelRun0_A.sl.HS1_3, kernelRun0_A.sl.HS1_2, kernelRun0_A.sl.HS1_1, ↓ View.readCov_skip]
  exact View.readCov_fill _ _ _ _ _ (by decide)

/-- A chunk of the accumulator loaded after the zeros were stored and before the chunk itself was. -/
theorem loadA_1280 :
    (kernelRun0_A.sl.v428 (F := Ideal) c arg1 harg1 arg2 harg2 arg3 harg3 arg4 harg4 arg5 harg5 arg6 harg6 arg7 harg7 arg8 harg8 arg9 harg9 arg10 harg10 arg18 arg19 x0 x1 x2 x3 x4 x5 x6 x7 x8 x9) = View.ld (k0_pay4 (F := Ideal)) (Rect.unit (s := S256x2048) ![0, 1280] S256x256.size inb_S256x2048_S256x256_0_1280) := by
  simp (disch := decide) only [kernelRun0_A.sl.v428, kernelRun0_A.sl.HS1_6, kernelRun0_A.sl.HS1_5, kernelRun0_A.sl.HS1_4, kernelRun0_A.sl.HS1_3, kernelRun0_A.sl.HS1_2, kernelRun0_A.sl.HS1_1, ↓ View.readCov_skip]
  exact View.readCov_fill _ _ _ _ _ (by decide)

/-- A chunk of the accumulator loaded after the zeros were stored and before the chunk itself was. -/
theorem loadA_1536 :
    (kernelRun0_A.sl.v450 (F := Ideal) c arg1 harg1 arg2 harg2 arg3 harg3 arg4 harg4 arg5 harg5 arg6 harg6 arg7 harg7 arg8 harg8 arg9 harg9 arg10 harg10 arg18 arg19 x0 x1 x2 x3 x4 x5 x6 x7 x8 x9) = View.ld (k0_pay4 (F := Ideal)) (Rect.unit (s := S256x2048) ![0, 1536] S256x256.size inb_S256x2048_S256x256_0_1536) := by
  simp (disch := decide) only [kernelRun0_A.sl.v450, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1, ↓ View.readCov_skip]
  exact View.readCov_fill _ _ _ _ _ (by decide)

/-- A chunk of the accumulator loaded after the zeros were stored and before the chunk itself was. -/
theorem loadA_1792 :
    (kernelRun0_A.sl.v472 (F := Ideal) c arg1 harg1 arg2 harg2 arg3 harg3 arg4 harg4 arg5 harg5 arg6 harg6 arg7 harg7 arg8 harg8 arg9 harg9 arg10 harg10 arg18 arg19 x0 x1 x2 x3 x4 x5 x6 x7 x8 x9) = View.ld (k0_pay4 (F := Ideal)) (Rect.unit (s := S256x2048) ![0, 1792] S256x256.size inb_S256x2048_S256x256_0_1792) := by
  simp (disch := decide) only [kernelRun0_A.sl.v472, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1, ↓ View.readCov_skip]
  exact View.readCov_fill _ _ _ _ _ (by decide)

/-- The activation the later loads read. -/
theorem actA : arg18.view.read (Elt Ideal) (arg18.view.writes (Elt Ideal) arg18.view.junk (kernelRun0_A.sl.HS0_1 c arg1 harg1 arg2 harg2 arg9 harg9 x0 x1 x8))
    = vals (codesBy (normed x0 x1) (x8 (ix2 0 0))) := by
  rw [View.read_writes_junk_eq_canon, storesA_act, whole_canon (S := S256x2048) off_zero, pay3_eq]
  simp only [harg1.read_unread, harg2.read_unread, harg9.read_unread, idx_one, ld_S1x2048, ld_S256x2048]

/-- What the stores of the activation leave. -/
theorem canonA_11 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.1
    = (gated (vals (codesBy (normed x0 x1) (x8 (ix2 0 0)))) x2 x3 x5 x6 (x8 (ix2 0 0))) := by
  rw [piecesA_11, whole_canon (S := S256x512) off_zero, gatedTerm_gateTerm]; rw [actA];
  simp only [harg1.read_unread, harg2.read_unread, harg3.read_unread, harg4.read_unread, harg5.read_unread, harg6.read_unread, harg7.read_unread, harg8.read_unread, harg9.read_unread, harg10.read_unread, idx_one, ld_S1x512, ld_S1x2048, ld_S256x2048, ld_S256x2048_f32]

/-- What the stores of the gate codes leave. -/
theorem canonA_13 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.2.1
    = (codes x2 x5) := by
  rw [piecesA_13, gateList_canon]
  simp only [harg1.read_unread, harg2.read_unread, harg3.read_unread, harg4.read_unread, harg5.read_unread, harg6.read_unread, harg7.read_unread, harg8.read_unread, harg9.read_unread, harg10.read_unread, idx_one, ld_S1x512, ld_S1x2048, ld_S256x2048, ld_S256x2048_f32]

/-- What the stores of the up codes leave. -/
theorem canonA_14 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.2.2.1
    = (codes x3 x6) := by
  rw [piecesA_14, upList_canon]
  simp only [harg1.read_unread, harg2.read_unread, harg3.read_unread, harg4.read_unread, harg5.read_unread, harg6.read_unread, harg7.read_unread, harg8.read_unread, harg9.read_unread, harg10.read_unread, idx_one, ld_S1x512, ld_S1x2048, ld_S256x2048, ld_S256x2048_f32]

/-- What the store of the codes of the activation leaves. -/
theorem canonA_15 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.2.2.2.1
    = (codesBy (gated (vals (codesBy (normed x0 x1) (x8 (ix2 0 0)))) x2 x3 x5 x6 (x8 (ix2 0 0))) (x9 (ix2 0 0))) := by
  rw [piecesA_15, whole_canon (S := S256x512) off_zero, midTerm_eq, gatedTerm_gateTerm]; rw [actA];
  simp only [harg1.read_unread, harg2.read_unread, harg3.read_unread, harg4.read_unread, harg5.read_unread, harg6.read_unread, harg7.read_unread, harg8.read_unread, harg9.read_unread, harg10.read_unread, idx_one, ld_S1x512, ld_S1x2048, ld_S256x2048, ld_S256x2048_f32]

/-- What the stores of the down codes leave. -/
theorem canonA_16 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.2.2.2.2.1
    = (codes x4 x7) := by
  rw [piecesA_16, downList_canon]
  simp only [harg1.read_unread, harg2.read_unread, harg3.read_unread, harg4.read_unread, harg5.read_unread, harg6.read_unread, harg7.read_unread, harg8.read_unread, harg9.read_unread, harg10.read_unread, idx_one, ld_S1x512, ld_S1x2048, ld_S256x2048, ld_S256x2048_f32]

/-- What the store of the first codes leaves. -/
theorem canonA_12 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.1
    = (codesBy (normed x0 x1) (x8 (ix2 0 0))) := by
  rw [piecesA_12, whole_canon (S := S256x2048) off_zero, pay2_eq]
  simp only [harg1.read_unread, harg2.read_unread, harg3.read_unread, harg4.read_unread, harg5.read_unread, harg6.read_unread, harg7.read_unread, harg8.read_unread, harg9.read_unread, harg10.read_unread, idx_one, ld_S1x512, ld_S1x2048, ld_S256x2048, ld_S256x2048_f32]

/-- What the store of the activation leaves. -/
theorem canonA_act : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.2.2.2.2.2.1
    = (vals (codesBy (normed x0 x1) (x8 (ix2 0 0)))) := by
  rw [piecesA_act, whole_canon (S := S256x2048) off_zero, pay3_eq]
  simp only [harg1.read_unread, harg2.read_unread, harg3.read_unread, harg4.read_unread, harg5.read_unread, harg6.read_unread, harg7.read_unread, harg8.read_unread, harg9.read_unread, harg10.read_unread, idx_one, ld_S1x512, ld_S1x2048, ld_S256x2048, ld_S256x2048_f32]

/-- What the stores of the accumulator leave. -/
theorem canonA_acc : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.2.2.2.2.2.2.1
    = (accNext (codesBy (gated (vals (codesBy (normed x0 x1) (x8 (ix2 0 0)))) x2 x3 x5 x6 (x8 (ix2 0 0))) (x9 (ix2 0 0))) x7 x4 (fun _ => 0)) := by
  rw [piecesA_acc, accList_canon _ _ _ _ _ _ _ _ _ _ _ (k0_pay4 (F := Ideal)) _ (loadA_0 ..) (loadA_256 ..) (loadA_512 ..) (loadA_768 ..) (loadA_1024 ..) (loadA_1280 ..) (loadA_1536 ..) (loadA_1792 ..), midTerm_eq, gatedTerm_gateTerm, pay4_eq]; rw [actA];
  simp only [harg1.read_unread, harg2.read_unread, harg3.read_unread, harg4.read_unread, harg5.read_unread, harg6.read_unread, harg7.read_unread, harg8.read_unread, harg9.read_unread, harg10.read_unread, idx_one, ld_S1x512, ld_S1x2048, ld_S256x2048, ld_S256x2048_f32]

include hc0 hc1 in
/-- The body at the first point: whatever the buffers it fills held, it leaves the codes of its blocks, the activation and its codes, and the
    accumulator with the point's product added. -/
theorem stepA (xi10 : Vec Ideal S256x2048 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare (gated (vals (codesBy (normed x0 x1) (x8 (ix2 0 0)))) x2 x3 x5 x6 (x8 (ix2 0 0))) ∗ owns (c : Thread nD τ) arg13 fullShare (codesBy (normed x0 x1) (x8 (ix2 0 0))) ∗ owns (c : Thread nD τ) arg14 fullShare (codes x2 x5) ∗ owns (c : Thread nD τ) arg15 fullShare (codes x3 x6) ∗ owns (c : Thread nD τ) arg16 fullShare (codesBy (gated (vals (codesBy (normed x0 x1) (x8 (ix2 0 0)))) x2 x3 x5 x6 (x8 (ix2 0 0))) (x9 (ix2 0 0))) ∗ owns (c : Thread nD τ) arg17 fullShare (codes x4 x7) ∗ owns (c : Thread nD τ) arg18 fullShare (vals (codesBy (normed x0 x1) (x8 (ix2 0 0)))) ∗ owns (c : Thread nD τ) arg19 fullShare (accNext (codesBy (gated (vals (codesBy (normed x0 x1) (x8 (ix2 0 0)))) x2 x3 x5 x6 (x8 (ix2 0 0))) (x9 (ix2 0 0))) x7 x4 (fun _ => 0))) -∗ K ⟨⟩))
      ⊢ wp frame (wpE (defs₀ (F := Ideal)) Variants.none c none) E (cc0_lsq_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨H0, H1, H2, H3, H4, H5, H6, H7, H8, H9, H10, H11, H12, H13, H14, H15, H16, HS0, HS1, Hk⟩
  iapply ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.2.2.2.2.2.2.2 xi10 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  iintro ⟨H0, H1, H2, H3, H4, H5, H6, H7, H8, H9, H10, H11, H12, H13, H14, H15, H16, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (owns_of_stores _ _ _ (fun y => by rw [piecesA_11]; exact whole_cover (S := S256x512) off_zero _ _ _) (canonA_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)); iexact H11
  isplitl [H12]; · iapply (owns_of_stores _ _ _ (fun y => by rw [piecesA_12]; exact whole_cover (S := S256x2048) off_zero _ _ _) (canonA_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)); iexact H12
  isplitl [H13]; · iapply (owns_of_stores _ _ _ (fun y => by rw [piecesA_13]; exact gateList_cover _ _ y) (canonA_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)); iexact H13
  isplitl [H14]; · iapply (owns_of_stores _ _ _ (fun y => by rw [piecesA_14]; exact upList_cover _ _ y) (canonA_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)); iexact H14
  isplitl [H15]; · iapply (owns_of_stores _ _ _ (fun y => by rw [piecesA_15]; exact whole_cover (S := S256x512) off_zero _ _ _) (canonA_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)); iexact H15
  isplitl [H16]; · iapply (owns_of_stores _ _ _ (fun y => by rw [piecesA_16]; exact downList_cover _ _ y) (canonA_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)); iexact H16
  isplitl [HS0]; · iapply (owns_of_stores _ _ _ (fun y => by rw [piecesA_act]; exact whole_cover (S := S256x2048) off_zero _ _ _) (canonA_act c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)); iexact HS0
  iapply (owns_of_stores _ _ _ (fun y => by rw [piecesA_acc]; exact cover_append _ _ (accList_cover _ _ _ _ _ _ _ _ _ _ _) y) (canonA_acc c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)); iexact HS1

end Cert.KernelIdeal.Body
-- ==== Proof.Body.RunB.lean ====
/- The kernel body run at a middle grid point: its triple, with the stores each buffer ends with. -/
module

public import proofs.«01_k».proof.Proof.Body.RunA

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 14: 14 of 16), WITH the
    proof that on whole staging memrefs — the inputs' at their contents, the outputs it leaves idle (10, 12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .smem S1x1 .f32) (harg9 : arg9.IsWhole) (arg10 : Memref sig .tc .smem S1x1 .f32) (harg10 : arg10.IsWhole) (arg11 : Memref sig .tc .vmem S256x2048 .bf16) (harg11 : arg11.IsWhole) (arg12 : Memref sig .tc .vmem S256x512 .f32) (harg12 : arg12.IsWhole) (arg13 : Memref sig .tc .vmem S256x2048 .i8) (harg13 : arg13.IsWhole) (arg14 : Memref sig .tc .vmem S2048x512 .i8) (harg14 : arg14.IsWhole) (arg15 : Memref sig .tc .vmem S2048x512 .i8) (harg15 : arg15.IsWhole) (arg16 : Memref sig .tc .vmem S256x512 .i8) (harg16 : arg16.IsWhole) (arg17 : Memref sig .tc .vmem S512x2048 .i8) (harg17 : arg17.IsWhole) (arg18 : Memref sig .tc .vmem S256x2048 .bf16) (harg18 : arg18.IsWhole) (arg19 : Memref sig .tc .vmem S256x2048 .f32) (harg19 : arg19.IsWhole) (hc0 : ¬cond0_0 i) (hc1 : ¬cond0_1 i)
    (x0 : Vec F S256x2048 .bf16) (x1 : Vec F S1x2048 .f32) (x2 : Vec F S2048x512 .bf16) (x3 : Vec F S2048x512 .bf16) (x4 : Vec F S512x2048 .bf16) (x5 : Vec F S1x512 .f32) (x6 : Vec F S1x512 .f32) (x7 : Vec F S1x2048 .f32) (x8 : Vec F S1x1 .f32) (x9 : Vec F S1x1 .f32) (xs0 : Vec F S256x2048 .bf16) (xs1 : Vec F S256x2048 .f32) :
    Σ' (L10 : List (View.Piece (Elt F) S256x2048 .bf16)), Σ' (L11 : List (View.Piece (Elt F) S256x512 .f32)), Σ' (L12 : List (View.Piece (Elt F) S256x2048 .i8)), Σ' (L13 : List (View.Piece (Elt F) S2048x512 .i8)), Σ' (L14 : List (View.Piece (Elt F) S2048x512 .i8)), Σ' (L15 : List (View.Piece (Elt F) S256x512 .i8)), Σ' (L16 : List (View.Piece (Elt F) S512x2048 .i8)), Σ' (LS0 : List (View.Piece (Elt F) S256x2048 .bf16)), { LS1 : List (View.Piece (Elt F) S256x2048 .f32) //
      ∀ (xi10 : Vec F S256x2048 .bf16) (xi12 : Vec F S256x2048 .i8) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ d, owns (c : Thread nD τ) arg12 fullShare d) ∗ owns (c : Thread nD τ) arg13 fullShare xi12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs0 ∗ owns (c : Thread nD τ) arg19 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ f, arg12.view.loc (c : Thread nD τ) ↦[arg12.view.set]{fullShare} arg12.view.writes (Elt F) f L11) ∗ owns (c : Thread nD τ) arg13 fullShare xi12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ owns (c : Thread nD τ) arg18 fullShare xs0 ∗ (∃ f, arg19.view.loc (c : Thread nD τ) ↦[arg19.view.set]{fullShare} arg19.view.writes (Elt F) f LS1)) -∗ K ⟨⟩))
          ⊢ wp frame (wpE (defs₀ (F := F)) Variants.none c none) E (cc0_lsq_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], ?_, [], ?_, ?_, ?_, ?_, [], ?_, fun xi10 xi12 E K => ?run⟩
  case run =>
    simp only [cc0_lsq_mlp_eq_skeleton]; unfold cc0_lsq_mlp_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%d15, %f15, -, H15⟩, ⟨%d16, %f16, -, H16⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf12; obtain rfl := harg18.eq_unread hfs0; obtain rfl := harg19.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [HS0]
    · iexists _; isplitr; · ipureintro; exact harg18.read_unread _
      iexact HS0
    iexists _; iexact HS1

end Cert.KernelIdeal.Body

end
-- ==== Proof.Body.StepB.lean ====
/-
  The middle grid point's pass of the body: what it leaves in every buffer, as functions of what it read.
-/
module

public import proofs.«01_k».proof.Proof.Body.RunB
public import proofs.«01_k».proof.Proof.Body.Lists
public import proofs.«01_k».proof.Proof.Body.Leave

@[expose] public noncomputable section

set_option maxRecDepth 16384

namespace Cert.KernelIdeal.Body

open Cert.KernelIdeal.Gen Cert.Mlp
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .smem S1x1 .f32) (harg9 : arg9.IsWhole) (arg10 : Memref sig .tc .smem S1x1 .f32) (harg10 : arg10.IsWhole) (arg11 : Memref sig .tc .vmem S256x2048 .bf16) (harg11 : arg11.IsWhole) (arg12 : Memref sig .tc .vmem S256x512 .f32) (harg12 : arg12.IsWhole) (arg13 : Memref sig .tc .vmem S256x2048 .i8) (harg13 : arg13.IsWhole) (arg14 : Memref sig .tc .vmem S2048x512 .i8) (harg14 : arg14.IsWhole) (arg15 : Memref sig .tc .vmem S2048x512 .i8) (harg15 : arg15.IsWhole) (arg16 : Memref sig .tc .vmem S256x512 .i8) (harg16 : arg16.IsWhole) (arg17 : Memref sig .tc .vmem S512x2048 .i8) (harg17 : arg17.IsWhole) (arg18 : Memref sig .tc .vmem S256x2048 .bf16) (harg18 : arg18.IsWhole) (arg19 : Memref sig .tc .vmem S256x2048 .f32) (harg19 : arg19.IsWhole) (hc0 : ¬cond0_0 i) (hc1 : ¬cond0_1 i)
  (x0 : Vec Ideal S256x2048 .bf16) (x1 : Vec Ideal S1x2048 .f32) (x2 : Vec Ideal S2048x512 .bf16) (x3 : Vec Ideal S2048x512 .bf16) (x4 : Vec Ideal S512x2048 .bf16) (x5 : Vec Ideal S1x512 .f32) (x6 : Vec Ideal S1x512 .f32) (x7 : Vec Ideal S1x2048 .f32) (x8 : Vec Ideal S1x1 .f32) (x9 : Vec Ideal S1x1 .f32) (xs0 : Vec Ideal S256x2048 .bf16) (xs1 : Vec Ideal S256x2048 .f32)

/-- The store of the activation: one, of the whole block. -/
theorem piecesB_11 :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.1
      = [⟨Rect.unit ![0, 0] S256x512.size inb_S256x512_S256x512_0_0, gatedTerm ((arg9.view.read (Elt Ideal) (harg9.unread x8)) ((Rect.unit ![0, 0] S1x1.size inb_S1x1_S1x1_0_0).idx (Shape.Idx.first (by decide)))) (gateTerm ((arg9.view.read (Elt Ideal) (harg9.unread x8)) ((Rect.unit ![0, 0] S1x1.size inb_S1x1_S1x1_0_0).idx (Shape.Idx.first (by decide)))) (View.ld (arg6.view.read (Elt Ideal) (harg6.unread x5)) (Rect.unit ![0, 0] S1x512.size inb_S1x512_S1x512_0_0)) (arg3.view.read (Elt Ideal) (harg3.unread x2)) (arg18.view.read (Elt Ideal) (harg18.unread xs0))) (View.ld (arg7.view.read (Elt Ideal) (harg7.unread x6)) (Rect.unit ![0, 0] S1x512.size inb_S1x512_S1x512_0_0)) (arg4.view.read (Elt Ideal) (harg4.unread x3)) (arg18.view.read (Elt Ideal) (harg18.unread xs0))⟩] := by sl_kernel_rfl

/-- The stores of the gate codes. -/
theorem piecesB_13 :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.1
      = gateList (View.ld (arg6.view.read (Elt Ideal) (harg6.unread x5)) (Rect.unit ![0, 0] S1x512.size inb_S1x512_S1x512_0_0)) (arg3.view.read (Elt Ideal) (harg3.unread x2)) := by sl_kernel_rfl

/-- The stores of the up codes. -/
theorem piecesB_14 :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.2.1
      = upList (View.ld (arg7.view.read (Elt Ideal) (harg7.unread x6)) (Rect.unit ![0, 0] S1x512.size inb_S1x512_S1x512_0_0)) (arg4.view.read (Elt Ideal) (harg4.unread x3)) := by sl_kernel_rfl

/-- The store of the codes of the activation. -/
theorem piecesB_15 :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.2.2.1
      = [⟨Rect.unit ![0, 0] S256x512.size inb_S256x512_S256x512_0_0, (midTerm ((arg9.view.read (Elt Ideal) (harg9.unread x8)) ((Rect.unit ![0, 0] S1x1.size inb_S1x1_S1x1_0_0).idx (Shape.Idx.first (by decide)))) ((arg10.view.read (Elt Ideal) (harg10.unread x9)) ((Rect.unit ![0, 0] S1x1.size inb_S1x1_S1x1_0_0).idx (Shape.Idx.first (by decide)))) (gateTerm ((arg9.view.read (Elt Ideal) (harg9.unread x8)) ((Rect.unit ![0, 0] S1x1.size inb_S1x1_S1x1_0_0).idx (Shape.Idx.first (by decide)))) (View.ld (arg6.view.read (Elt Ideal) (harg6.unread x5)) (Rect.unit ![0, 0] S1x512.size inb_S1x512_S1x512_0_0)) (arg3.view.read (Elt Ideal) (harg3.unread x2)) (arg18.view.read (Elt Ideal) (harg18.unread xs0))) (View.ld (arg7.view.read (Elt Ideal) (harg7.unread x6)) (Rect.unit ![0, 0] S1x512.size inb_S1x512_S1x512_0_0)) (arg4.view.read (Elt Ideal) (harg4.unread x3)) (arg18.view.read (Elt Ideal) (harg18.unread xs0)))⟩] := by sl_kernel_rfl

/-- The stores of the down codes. -/
theorem piecesB_16 :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.2.2.2.1
      = downList (arg8.view.read (Elt Ideal) (harg8.unread x7)) (arg5.view.read (Elt Ideal) (harg5.unread x4)) := by sl_kernel_rfl

/-- The stores of the accumulator. -/
theorem piecesB_acc :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.2.2.2.2.2.1
      = accList (midTerm ((arg9.view.read (Elt Ideal) (harg9.unread x8)) ((Rect.unit ![0, 0] S1x1.size inb_S1x1_S1x1_0_0).idx (Shape.Idx.first (by decide)))) ((arg10.view.read (Elt Ideal) (harg10.unread x9)) ((Rect.unit ![0, 0] S1x1.size inb_S1x1_S1x1_0_0).idx (Shape.Idx.first (by decide)))) (gateTerm ((arg9.view.read (Elt Ideal) (harg9.unread x8)) ((Rect.unit ![0, 0] S1x1.size inb_S1x1_S1x1_0_0).idx (Shape.Idx.first (by decide)))) (View.ld (arg6.view.read (Elt Ideal) (harg6.unread x5)) (Rect.unit ![0, 0] S1x512.size inb_S1x512_S1x512_0_0)) (arg3.view.read (Elt Ideal) (harg3.unread x2)) (arg18.view.read (Elt Ideal) (harg18.unread xs0))) (View.ld (arg7.view.read (Elt Ideal) (harg7.unread x6)) (Rect.unit ![0, 0] S1x512.size inb_S1x512_S1x512_0_0)) (arg4.view.read (Elt Ideal) (harg4.unread x3)) (arg18.view.read (Elt Ideal) (harg18.unread xs0))) (arg8.view.read (Elt Ideal) (harg8.unread x7)) (arg5.view.read (Elt Ideal) (harg5.unread x4))
        (View.ld (arg19.view.read (Elt Ideal) (harg19.unread xs1)) (Rect.unit ![0, 0] S256x256.size inb_S256x2048_S256x256_0_0))
        (View.ld (arg19.view.read (Elt Ideal) (harg19.unread xs1)) (Rect.unit ![0, 256] S256x256.size inb_S256x2048_S256x256_0_256))
        (View.ld (arg19.view.read (Elt Ideal) (harg19.unread xs1)) (Rect.unit ![0, 512] S256x256.size inb_S256x2048_S256x256_0_512))
        (View.ld (arg19.view.read (Elt Ideal) (harg19.unread xs1)) (Rect.unit ![0, 768] S256x256.size inb_S256x2048_S256x256_0_768))
        (View.ld (arg19.view.read (Elt Ideal) (harg19.unread xs1)) (Rect.unit ![0, 1024] S256x256.size inb_S256x2048_S256x256_0_1024))
        (View.ld (arg19.view.read (Elt Ideal) (harg19.unread xs1)) (Rect.unit ![0, 1280] S256x256.size inb_S256x2048_S256x256_0_1280))
        (View.ld (arg19.view.read (Elt Ideal) (harg19.unread xs1)) (Rect.unit ![0, 1536] S256x256.size inb_S256x2048_S256x256_0_1536))
        (View.ld (arg19.view.read (Elt Ideal) (harg19.unread xs1)) (Rect.unit ![0, 1792] S256x256.size inb_S256x2048_S256x256_0_1792)) ++ [] := by sl_kernel_rfl

/-- What the stores of the activation leave. -/
theorem canonB_11 : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.1
    = (gated xs0 x2 x3 x5 x6 (x8 (ix2 0 0))) := by
  rw [piecesB_11, whole_canon (S := S256x512) off_zero, gatedTerm_gateTerm];
  simp only [harg1.read_unread, harg2.read_unread, harg3.read_unread, harg4.read_unread, harg5.read_unread, harg6.read_unread, harg7.read_unread, harg8.read_unread, harg9.read_unread, harg10.read_unread, harg18.read_unread, harg19.read_unread, idx_one, ld_S1x512, ld_S1x2048, ld_S256x2048, ld_S256x2048_f32]

/-- What the stores of the gate codes leave. -/
theorem canonB_13 : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.1
    = (codes x2 x5) := by
  rw [piecesB_13, gateList_canon]
  simp only [harg1.read_unread, harg2.read_unread, harg3.read_unread, harg4.read_unread, harg5.read_unread, harg6.read_unread, harg7.read_unread, harg8.read_unread, harg9.read_unread, harg10.read_unread, harg18.read_unread, harg19.read_unread, idx_one, ld_S1x512, ld_S1x2048, ld_S256x2048, ld_S256x2048_f32]

/-- What the stores of the up codes leave. -/
theorem canonB_14 : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.2.1
    = (codes x3 x6) := by
  rw [piecesB_14, upList_canon]
  simp only [harg1.read_unread, harg2.read_unread, harg3.read_unread, harg4.read_unread, harg5.read_unread, harg6.read_unread, harg7.read_unread, harg8.read_unread, harg9.read_unread, harg10.read_unread, harg18.read_unread, harg19.read_unread, idx_one, ld_S1x512, ld_S1x2048, ld_S256x2048, ld_S256x2048_f32]

/-- What the store of the codes of the activation leaves. -/
theorem canonB_15 : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.2.2.1
    = (codesBy (gated xs0 x2 x3 x5 x6 (x8 (ix2 0 0))) (x9 (ix2 0 0))) := by
  rw [piecesB_15, whole_canon (S := S256x512) off_zero, midTerm_eq, gatedTerm_gateTerm];
  simp only [harg1.read_unread, harg2.read_unread, harg3.read_unread, harg4.read_unread, harg5.read_unread, harg6.read_unread, harg7.read_unread, harg8.read_unread, harg9.read_unread, harg10.read_unread, harg18.read_unread, harg19.read_unread, idx_one, ld_S1x512, ld_S1x2048, ld_S256x2048, ld_S256x2048_f32]

/-- What the stores of the down codes leave. -/
theorem canonB_16 : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.2.2.2.1
    = (codes x4 x7) := by
  rw [piecesB_16, downList_canon]
  simp only [harg1.read_unread, harg2.read_unread, harg3.read_unread, harg4.read_unread, harg5.read_unread, harg6.read_unread, harg7.read_unread, harg8.read_unread, harg9.read_unread, harg10.read_unread, harg18.read_unread, harg19.read_unread, idx_one, ld_S1x512, ld_S1x2048, ld_S256x2048, ld_S256x2048_f32]

/-- What the stores of the accumulator leave. -/
theorem canonB_acc : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.2.2.2.2.2.1
    = (accNext (codesBy (gated xs0 x2 x3 x5 x6 (x8 (ix2 0 0))) (x9 (ix2 0 0))) x7 x4 xs1) := by
  rw [piecesB_acc, accList_canon _ _ _ _ _ _ _ _ _ _ _ (arg19.view.read (Elt Ideal) (harg19.unread xs1)) _ rfl rfl rfl rfl rfl rfl rfl rfl, midTerm_eq, gatedTerm_gateTerm]
  simp only [harg1.read_unread, harg2.read_unread, harg3.read_unread, harg4.read_unread, harg5.read_unread, harg6.read_unread, harg7.read_unread, harg8.read_unread, harg9.read_unread, harg10.read_unread, harg18.read_unread, harg19.read_unread, idx_one, ld_S1x512, ld_S1x2048, ld_S256x2048, ld_S256x2048_f32]

include hc0 hc1 in
/-- The body at the middle point: whatever the buffers it fills held, it leaves the codes of its blocks, the activation and its codes, and the
    accumulator with the point's product added. -/
theorem stepB (xi10 : Vec Ideal S256x2048 .bf16) (xi12 : Vec Ideal S256x2048 .i8) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ d, owns (c : Thread nD τ) arg12 fullShare d) ∗ owns (c : Thread nD τ) arg13 fullShare xi12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs0 ∗ owns (c : Thread nD τ) arg19 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare (gated xs0 x2 x3 x5 x6 (x8 (ix2 0 0))) ∗ owns (c : Thread nD τ) arg13 fullShare xi12 ∗ owns (c : Thread nD τ) arg14 fullShare (codes x2 x5) ∗ owns (c : Thread nD τ) arg15 fullShare (codes x3 x6) ∗ owns (c : Thread nD τ) arg16 fullShare (codesBy (gated xs0 x2 x3 x5 x6 (x8 (ix2 0 0))) (x9 (ix2 0 0))) ∗ owns (c : Thread nD τ) arg17 fullShare (codes x4 x7) ∗ owns (c : Thread nD τ) arg18 fullShare xs0 ∗ owns (c : Thread nD τ) arg19 fullShare (accNext (codesBy (gated xs0 x2 x3 x5 x6 (x8 (ix2 0 0))) (x9 (ix2 0 0))) x7 x4 xs1)) -∗ K ⟨⟩))
      ⊢ wp frame (wpE (defs₀ (F := Ideal)) Variants.none c none) E (cc0_lsq_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨H0, H1, H2, H3, H4, H5, H6, H7, H8, H9, H10, H11, H12, H13, H14, H15, H16, HS0, HS1, Hk⟩
  iapply ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.2.2.2.2.2.2 xi10 xi12 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  iintro ⟨H0, H1, H2, H3, H4, H5, H6, H7, H8, H9, H10, H11, H12, H13, H14, H15, H16, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (owns_of_stores _ _ _ (fun y => by rw [piecesB_11]; exact whole_cover (S := S256x512) off_zero _ _ _) (canonB_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1)); iexact H11
  isplitl [H12]; · iexact H12
  isplitl [H13]; · iapply (owns_of_stores _ _ _ (fun y => by rw [piecesB_13]; exact gateList_cover _ _ y) (canonB_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1)); iexact H13
  isplitl [H14]; · iapply (owns_of_stores _ _ _ (fun y => by rw [piecesB_14]; exact upList_cover _ _ y) (canonB_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1)); iexact H14
  isplitl [H15]; · iapply (owns_of_stores _ _ _ (fun y => by rw [piecesB_15]; exact whole_cover (S := S256x512) off_zero _ _ _) (canonB_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1)); iexact H15
  isplitl [H16]; · iapply (owns_of_stores _ _ _ (fun y => by rw [piecesB_16]; exact downList_cover _ _ y) (canonB_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1)); iexact H16
  isplitl [HS0]; · iexact HS0
  iapply (owns_of_stores _ _ _ (fun y => by rw [piecesB_acc]; exact cover_append _ _ (accList_cover _ _ _ _ _ _ _ _ _ _ _) y) (canonB_acc c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1)); iexact HS1

end Cert.KernelIdeal.Body
-- ==== Proof.Body.RunC.lean ====
/- The kernel body run at the last grid point: its triple, with the stores each buffer ends with. -/
module

public import proofs.«01_k».proof.Proof.Body.RunB

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15), WITH the
    proof that on whole staging memrefs — the inputs' at their contents, the outputs it leaves idle (12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .smem S1x1 .f32) (harg9 : arg9.IsWhole) (arg10 : Memref sig .tc .smem S1x1 .f32) (harg10 : arg10.IsWhole) (arg11 : Memref sig .tc .vmem S256x2048 .bf16) (harg11 : arg11.IsWhole) (arg12 : Memref sig .tc .vmem S256x512 .f32) (harg12 : arg12.IsWhole) (arg13 : Memref sig .tc .vmem S256x2048 .i8) (harg13 : arg13.IsWhole) (arg14 : Memref sig .tc .vmem S2048x512 .i8) (harg14 : arg14.IsWhole) (arg15 : Memref sig .tc .vmem S2048x512 .i8) (harg15 : arg15.IsWhole) (arg16 : Memref sig .tc .vmem S256x512 .i8) (harg16 : arg16.IsWhole) (arg17 : Memref sig .tc .vmem S512x2048 .i8) (harg17 : arg17.IsWhole) (arg18 : Memref sig .tc .vmem S256x2048 .bf16) (harg18 : arg18.IsWhole) (arg19 : Memref sig .tc .vmem S256x2048 .f32) (harg19 : arg19.IsWhole) (hc0 : ¬cond0_0 i) (hc1 : cond0_1 i)
    (x0 : Vec F S256x2048 .bf16) (x1 : Vec F S1x2048 .f32) (x2 : Vec F S2048x512 .bf16) (x3 : Vec F S2048x512 .bf16) (x4 : Vec F S512x2048 .bf16) (x5 : Vec F S1x512 .f32) (x6 : Vec F S1x512 .f32) (x7 : Vec F S1x2048 .f32) (x8 : Vec F S1x1 .f32) (x9 : Vec F S1x1 .f32) (xs0 : Vec F S256x2048 .bf16) (xs1 : Vec F S256x2048 .f32) :
    Σ' (L10 : List (View.Piece (Elt F) S256x2048 .bf16)), Σ' (L11 : List (View.Piece (Elt F) S256x512 .f32)), Σ' (L12 : List (View.Piece (Elt F) S256x2048 .i8)), Σ' (L13 : List (View.Piece (Elt F) S2048x512 .i8)), Σ' (L14 : List (View.Piece (Elt F) S2048x512 .i8)), Σ' (L15 : List (View.Piece (Elt F) S256x512 .i8)), Σ' (L16 : List (View.Piece (Elt F) S512x2048 .i8)), Σ' (LS0 : List (View.Piece (Elt F) S256x2048 .bf16)), { LS1 : List (View.Piece (Elt F) S256x2048 .f32) //
      ∀ (xi12 : Vec F S256x2048 .i8) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare xi12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs0 ∗ owns (c : Thread nD τ) arg19 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ owns (c : Thread nD τ) arg13 fullShare xi12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ owns (c : Thread nD τ) arg18 fullShare xs0 ∗ (∃ f, arg19.view.loc (c : Thread nD τ) ↦[arg19.view.set]{fullShare} arg19.view.writes (Elt F) f LS1)) -∗ K ⟨⟩))
          ⊢ wp frame (wpE (defs₀ (F := F)) Variants.none c none) E (cc0_lsq_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, [], ?_, ?_, ?_, ?_, [], ?_, fun xi12 E K => ?run⟩
  case run =>
    simp only [cc0_lsq_mlp_eq_skeleton]; unfold cc0_lsq_mlp_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%d13, %f13, -, H13⟩, ⟨%d14, %f14, -, H14⟩, ⟨%d15, %f15, -, H15⟩, ⟨%d16, %f16, -, H16⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hf12; obtain rfl := harg18.eq_unread hfs0; obtain rfl := harg19.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [HS0]
    · iexists _; isplitr; · ipureintro; exact harg18.read_unread _
      iexact HS0
    iexists _; iexact HS1

end Cert.KernelIdeal.Body

end
-- ==== Proof.Body.StepC.lean ====
/-
  The last grid point's pass of the body: what it leaves in every buffer, as functions of what it read.
-/
module

public import proofs.«01_k».proof.Proof.Body.RunC
public import proofs.«01_k».proof.Proof.Body.Lists
public import proofs.«01_k».proof.Proof.Body.Leave

@[expose] public noncomputable section

set_option maxRecDepth 16384

namespace Cert.KernelIdeal.Body

open Cert.KernelIdeal.Gen Cert.Mlp
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (c : Dev nD) (i : grid0.Coords) (arg1 : Memref sig .tc .vmem S256x2048 .bf16) (harg1 : arg1.IsWhole) (arg2 : Memref sig .tc .vmem S1x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .smem S1x1 .f32) (harg9 : arg9.IsWhole) (arg10 : Memref sig .tc .smem S1x1 .f32) (harg10 : arg10.IsWhole) (arg11 : Memref sig .tc .vmem S256x2048 .bf16) (harg11 : arg11.IsWhole) (arg12 : Memref sig .tc .vmem S256x512 .f32) (harg12 : arg12.IsWhole) (arg13 : Memref sig .tc .vmem S256x2048 .i8) (harg13 : arg13.IsWhole) (arg14 : Memref sig .tc .vmem S2048x512 .i8) (harg14 : arg14.IsWhole) (arg15 : Memref sig .tc .vmem S2048x512 .i8) (harg15 : arg15.IsWhole) (arg16 : Memref sig .tc .vmem S256x512 .i8) (harg16 : arg16.IsWhole) (arg17 : Memref sig .tc .vmem S512x2048 .i8) (harg17 : arg17.IsWhole) (arg18 : Memref sig .tc .vmem S256x2048 .bf16) (harg18 : arg18.IsWhole) (arg19 : Memref sig .tc .vmem S256x2048 .f32) (harg19 : arg19.IsWhole) (hc0 : ¬cond0_0 i) (hc1 : cond0_1 i)
  (x0 : Vec Ideal S256x2048 .bf16) (x1 : Vec Ideal S1x2048 .f32) (x2 : Vec Ideal S2048x512 .bf16) (x3 : Vec Ideal S2048x512 .bf16) (x4 : Vec Ideal S512x2048 .bf16) (x5 : Vec Ideal S1x512 .f32) (x6 : Vec Ideal S1x512 .f32) (x7 : Vec Ideal S1x2048 .f32) (x8 : Vec Ideal S1x1 .f32) (x9 : Vec Ideal S1x1 .f32) (xs0 : Vec Ideal S256x2048 .bf16) (xs1 : Vec Ideal S256x2048 .f32)

/-- The store of the activation: one, of the whole block. -/
theorem piecesC_11 :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.1
      = [⟨Rect.unit ![0, 0] S256x512.size inb_S256x512_S256x512_0_0, gatedTerm ((arg9.view.read (Elt Ideal) (harg9.unread x8)) ((Rect.unit ![0, 0] S1x1.size inb_S1x1_S1x1_0_0).idx (Shape.Idx.first (by decide)))) (gateTerm ((arg9.view.read (Elt Ideal) (harg9.unread x8)) ((Rect.unit ![0, 0] S1x1.size inb_S1x1_S1x1_0_0).idx (Shape.Idx.first (by decide)))) (View.ld (arg6.view.read (Elt Ideal) (harg6.unread x5)) (Rect.unit ![0, 0] S1x512.size inb_S1x512_S1x512_0_0)) (arg3.view.read (Elt Ideal) (harg3.unread x2)) (arg18.view.read (Elt Ideal) (harg18.unread xs0))) (View.ld (arg7.view.read (Elt Ideal) (harg7.unread x6)) (Rect.unit ![0, 0] S1x512.size inb_S1x512_S1x512_0_0)) (arg4.view.read (Elt Ideal) (harg4.unread x3)) (arg18.view.read (Elt Ideal) (harg18.unread xs0))⟩] := by sl_kernel_rfl

/-- The stores of the gate codes. -/
theorem piecesC_13 :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.1
      = gateList (View.ld (arg6.view.read (Elt Ideal) (harg6.unread x5)) (Rect.unit ![0, 0] S1x512.size inb_S1x512_S1x512_0_0)) (arg3.view.read (Elt Ideal) (harg3.unread x2)) := by sl_kernel_rfl

/-- The stores of the up codes. -/
theorem piecesC_14 :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.2.1
      = upList (View.ld (arg7.view.read (Elt Ideal) (harg7.unread x6)) (Rect.unit ![0, 0] S1x512.size inb_S1x512_S1x512_0_0)) (arg4.view.read (Elt Ideal) (harg4.unread x3)) := by sl_kernel_rfl

/-- The store of the codes of the activation. -/
theorem piecesC_15 :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.2.2.1
      = [⟨Rect.unit ![0, 0] S256x512.size inb_S256x512_S256x512_0_0, (midTerm ((arg9.view.read (Elt Ideal) (harg9.unread x8)) ((Rect.unit ![0, 0] S1x1.size inb_S1x1_S1x1_0_0).idx (Shape.Idx.first (by decide)))) ((arg10.view.read (Elt Ideal) (harg10.unread x9)) ((Rect.unit ![0, 0] S1x1.size inb_S1x1_S1x1_0_0).idx (Shape.Idx.first (by decide)))) (gateTerm ((arg9.view.read (Elt Ideal) (harg9.unread x8)) ((Rect.unit ![0, 0] S1x1.size inb_S1x1_S1x1_0_0).idx (Shape.Idx.first (by decide)))) (View.ld (arg6.view.read (Elt Ideal) (harg6.unread x5)) (Rect.unit ![0, 0] S1x512.size inb_S1x512_S1x512_0_0)) (arg3.view.read (Elt Ideal) (harg3.unread x2)) (arg18.view.read (Elt Ideal) (harg18.unread xs0))) (View.ld (arg7.view.read (Elt Ideal) (harg7.unread x6)) (Rect.unit ![0, 0] S1x512.size inb_S1x512_S1x512_0_0)) (arg4.view.read (Elt Ideal) (harg4.unread x3)) (arg18.view.read (Elt Ideal) (harg18.unread xs0)))⟩] := by sl_kernel_rfl

/-- The stores of the down codes. -/
theorem piecesC_16 :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.2.2.2.1
      = downList (arg8.view.read (Elt Ideal) (harg8.unread x7)) (arg5.view.read (Elt Ideal) (harg5.unread x4)) := by sl_kernel_rfl

/-- The stores of the accumulator. -/
theorem piecesC_acc :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.2.2.2.2.2.1
      = accList (midTerm ((arg9.view.read (Elt Ideal) (harg9.unread x8)) ((Rect.unit ![0, 0] S1x1.size inb_S1x1_S1x1_0_0).idx (Shape.Idx.first (by decide)))) ((arg10.view.read (Elt Ideal) (harg10.unread x9)) ((Rect.unit ![0, 0] S1x1.size inb_S1x1_S1x1_0_0).idx (Shape.Idx.first (by decide)))) (gateTerm ((arg9.view.read (Elt Ideal) (harg9.unread x8)) ((Rect.unit ![0, 0] S1x1.size inb_S1x1_S1x1_0_0).idx (Shape.Idx.first (by decide)))) (View.ld (arg6.view.read (Elt Ideal) (harg6.unread x5)) (Rect.unit ![0, 0] S1x512.size inb_S1x512_S1x512_0_0)) (arg3.view.read (Elt Ideal) (harg3.unread x2)) (arg18.view.read (Elt Ideal) (harg18.unread xs0))) (View.ld (arg7.view.read (Elt Ideal) (harg7.unread x6)) (Rect.unit ![0, 0] S1x512.size inb_S1x512_S1x512_0_0)) (arg4.view.read (Elt Ideal) (harg4.unread x3)) (arg18.view.read (Elt Ideal) (harg18.unread xs0))) (arg8.view.read (Elt Ideal) (harg8.unread x7)) (arg5.view.read (Elt Ideal) (harg5.unread x4))
        (View.ld (arg19.view.read (Elt Ideal) (harg19.unread xs1)) (Rect.unit ![0, 0] S256x256.size inb_S256x2048_S256x256_0_0))
        (View.ld (arg19.view.read (Elt Ideal) (harg19.unread xs1)) (Rect.unit ![0, 256] S256x256.size inb_S256x2048_S256x256_0_256))
        (View.ld (arg19.view.read (Elt Ideal) (harg19.unread xs1)) (Rect.unit ![0, 512] S256x256.size inb_S256x2048_S256x256_0_512))
        (View.ld (arg19.view.read (Elt Ideal) (harg19.unread xs1)) (Rect.unit ![0, 768] S256x256.size inb_S256x2048_S256x256_0_768))
        (View.ld (arg19.view.read (Elt Ideal) (harg19.unread xs1)) (Rect.unit ![0, 1024] S256x256.size inb_S256x2048_S256x256_0_1024))
        (View.ld (arg19.view.read (Elt Ideal) (harg19.unread xs1)) (Rect.unit ![0, 1280] S256x256.size inb_S256x2048_S256x256_0_1280))
        (View.ld (arg19.view.read (Elt Ideal) (harg19.unread xs1)) (Rect.unit ![0, 1536] S256x256.size inb_S256x2048_S256x256_0_1536))
        (View.ld (arg19.view.read (Elt Ideal) (harg19.unread xs1)) (Rect.unit ![0, 1792] S256x256.size inb_S256x2048_S256x256_0_1792)) ++ [] := by sl_kernel_rfl

/-- The store of the output. -/
theorem piecesC_10 :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).1
      = [⟨Rect.unit ![0, 0] S256x2048.size inb_S256x2048_S256x2048_0_0, k0_pay1 ((arg10.view.read (Elt Ideal) (harg10.unread x9)) ((Rect.unit ![0, 0] S1x1.size inb_S1x1_S1x1_0_0).idx (Shape.Idx.first (by decide))))
        (arg19.view.readCov (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.2.2.2.2.2.1 (Rect.unit ![0, 0] S256x2048.size inb_S256x2048_S256x2048_0_0).toLoadRect) (View.ld (arg8.view.read (Elt Ideal) (harg8.unread x7)) (Rect.unit ![0, 0] S1x2048.size inb_S1x2048_S1x2048_0_0)) (View.ld (arg1.view.read (Elt Ideal) (harg1.unread x0)) (Rect.unit ![0, 0] S256x2048.size inb_S256x2048_S256x2048_0_0))⟩] := by sl_kernel_rfl

/-- What the stores of the activation leave. -/
theorem canonC_11 : View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.1
    = (gated xs0 x2 x3 x5 x6 (x8 (ix2 0 0))) := by
  rw [piecesC_11, whole_canon (S := S256x512) off_zero, gatedTerm_gateTerm];
  simp only [harg1.read_unread, harg2.read_unread, harg3.read_unread, harg4.read_unread, harg5.read_unread, harg6.read_unread, harg7.read_unread, harg8.read_unread, harg9.read_unread, harg10.read_unread, harg18.read_unread, harg19.read_unread, idx_one, ld_S1x512, ld_S1x2048, ld_S256x2048, ld_S256x2048_f32]

/-- What the stores of the gate codes leave. -/
theorem canonC_13 : View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.1
    = (codes x2 x5) := by
  rw [piecesC_13, gateList_canon]
  simp only [harg1.read_unread, harg2.read_unread, harg3.read_unread, harg4.read_unread, harg5.read_unread, harg6.read_unread, harg7.read_unread, harg8.read_unread, harg9.read_unread, harg10.read_unread, harg18.read_unread, harg19.read_unread, idx_one, ld_S1x512, ld_S1x2048, ld_S256x2048, ld_S256x2048_f32]

/-- What the stores of the up codes leave. -/
theorem canonC_14 : View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.2.1
    = (codes x3 x6) := by
  rw [piecesC_14, upList_canon]
  simp only [harg1.read_unread, harg2.read_unread, harg3.read_unread, harg4.read_unread, harg5.read_unread, harg6.read_unread, harg7.read_unread, harg8.read_unread, harg9.read_unread, harg10.read_unread, harg18.read_unread, harg19.read_unread, idx_one, ld_S1x512, ld_S1x2048, ld_S256x2048, ld_S256x2048_f32]

/-- What the store of the codes of the activation leaves. -/
theorem canonC_15 : View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.2.2.1
    = (codesBy (gated xs0 x2 x3 x5 x6 (x8 (ix2 0 0))) (x9 (ix2 0 0))) := by
  rw [piecesC_15, whole_canon (S := S256x512) off_zero, midTerm_eq, gatedTerm_gateTerm];
  simp only [harg1.read_unread, harg2.read_unread, harg3.read_unread, harg4.read_unread, harg5.read_unread, harg6.read_unread, harg7.read_unread, harg8.read_unread, harg9.read_unread, harg10.read_unread, harg18.read_unread, harg19.read_unread, idx_one, ld_S1x512, ld_S1x2048, ld_S256x2048, ld_S256x2048_f32]

/-- What the stores of the down codes leave. -/
theorem canonC_16 : View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.2.2.2.1
    = (codes x4 x7) := by
  rw [piecesC_16, downList_canon]
  simp only [harg1.read_unread, harg2.read_unread, harg3.read_unread, harg4.read_unread, harg5.read_unread, harg6.read_unread, harg7.read_unread, harg8.read_unread, harg9.read_unread, harg10.read_unread, harg18.read_unread, harg19.read_unread, idx_one, ld_S1x512, ld_S1x2048, ld_S256x2048, ld_S256x2048_f32]

/-- What the stores of the accumulator leave. -/
theorem canonC_acc : View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.2.2.2.2.2.1
    = (accNext (codesBy (gated xs0 x2 x3 x5 x6 (x8 (ix2 0 0))) (x9 (ix2 0 0))) x7 x4 xs1) := by
  rw [piecesC_acc, accList_canon _ _ _ _ _ _ _ _ _ _ _ (arg19.view.read (Elt Ideal) (harg19.unread xs1)) _ rfl rfl rfl rfl rfl rfl rfl rfl, midTerm_eq, gatedTerm_gateTerm]
  simp only [harg1.read_unread, harg2.read_unread, harg3.read_unread, harg4.read_unread, harg5.read_unread, harg6.read_unread, harg7.read_unread, harg8.read_unread, harg9.read_unread, harg10.read_unread, harg18.read_unread, harg19.read_unread, idx_one, ld_S1x512, ld_S1x2048, ld_S256x2048, ld_S256x2048_f32]

/-- The stores of the accumulator fill it. -/
theorem coverC_acc : ∀ y, ∃ p ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.2.2.2.2.2.1, y ∈ p.1.set := by
  rw [piecesC_acc]; exact cover_append _ _ (accList_cover _ _ _ _ _ _ _ _ _ _ _)

/-- What the store of the output leaves. -/
theorem canonC_10 : View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).1
    = (outp x0 (accNext (codesBy (gated xs0 x2 x3 x5 x6 (x8 (ix2 0 0))) (x9 (ix2 0 0))) x7 x4 xs1) x7 (x9 (ix2 0 0))) := by
  rw [piecesC_10, whole_canon (S := S256x2048) off_zero, pay1_eq, View.readCov_eq_canon_ld _ _ _ (coverC_acc c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1), canonC_acc]
  simp only [harg1.read_unread, harg2.read_unread, harg3.read_unread, harg4.read_unread, harg5.read_unread, harg6.read_unread, harg7.read_unread, harg8.read_unread, harg9.read_unread, harg10.read_unread, harg18.read_unread, harg19.read_unread, idx_one, ld_S1x512, ld_S1x2048, ld_S256x2048, ld_S256x2048_f32]

include hc0 hc1 in
/-- The body at the last point: whatever the buffers it fills held, it leaves the codes of its blocks, the activation and its codes, and the
    accumulator with the point's product added. -/
theorem stepC (xi12 : Vec Ideal S256x2048 .i8) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare xi12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs0 ∗ owns (c : Thread nD τ) arg19 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outp x0 (accNext (codesBy (gated xs0 x2 x3 x5 x6 (x8 (ix2 0 0))) (x9 (ix2 0 0))) x7 x4 xs1) x7 (x9 (ix2 0 0))) ∗ owns (c : Thread nD τ) arg12 fullShare (gated xs0 x2 x3 x5 x6 (x8 (ix2 0 0))) ∗ owns (c : Thread nD τ) arg13 fullShare xi12 ∗ owns (c : Thread nD τ) arg14 fullShare (codes x2 x5) ∗ owns (c : Thread nD τ) arg15 fullShare (codes x3 x6) ∗ owns (c : Thread nD τ) arg16 fullShare (codesBy (gated xs0 x2 x3 x5 x6 (x8 (ix2 0 0))) (x9 (ix2 0 0))) ∗ owns (c : Thread nD τ) arg17 fullShare (codes x4 x7) ∗ owns (c : Thread nD τ) arg18 fullShare xs0 ∗ owns (c : Thread nD τ) arg19 fullShare (accNext (codesBy (gated xs0 x2 x3 x5 x6 (x8 (ix2 0 0))) (x9 (ix2 0 0))) x7 x4 xs1)) -∗ K ⟨⟩))
      ⊢ wp frame (wpE (defs₀ (F := Ideal)) Variants.none c none) E (cc0_lsq_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨H0, H1, H2, H3, H4, H5, H6, H7, H8, H9, H10, H11, H12, H13, H14, H15, H16, HS0, HS1, Hk⟩
  iapply ((kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1).2.2.2.2.2.2.2.2.2 xi12 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  iintro ⟨H0, H1, H2, H3, H4, H5, H6, H7, H8, H9, H10, H11, H12, H13, H14, H15, H16, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (owns_of_stores _ _ _ (fun y => by rw [piecesC_10]; exact whole_cover (S := S256x2048) off_zero _ _ _) (canonC_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1)); iexact H10
  isplitl [H11]; · iapply (owns_of_stores _ _ _ (fun y => by rw [piecesC_11]; exact whole_cover (S := S256x512) off_zero _ _ _) (canonC_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1)); iexact H11
  isplitl [H12]; · iexact H12
  isplitl [H13]; · iapply (owns_of_stores _ _ _ (fun y => by rw [piecesC_13]; exact gateList_cover _ _ y) (canonC_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1)); iexact H13
  isplitl [H14]; · iapply (owns_of_stores _ _ _ (fun y => by rw [piecesC_14]; exact upList_cover _ _ y) (canonC_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1)); iexact H14
  isplitl [H15]; · iapply (owns_of_stores _ _ _ (fun y => by rw [piecesC_15]; exact whole_cover (S := S256x512) off_zero _ _ _) (canonC_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1)); iexact H15
  isplitl [H16]; · iapply (owns_of_stores _ _ _ (fun y => by rw [piecesC_16]; exact downList_cover _ _ y) (canonC_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1)); iexact H16
  isplitl [HS0]; · iexact HS0
  iapply (owns_of_stores _ _ _ (fun y => by rw [piecesC_acc]; exact cover_append _ _ (accList_cover _ _ _ _ _ _ _ _ _ _ _) y) (canonC_acc c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1)); iexact HS1

end Cert.KernelIdeal.Body
-- ==== Proof.Body.Sound.lean ====
/-
  The body meets the proof data at every grid point, so the program runs to the end and leaves its arguments as they were.
-/
module

public import proofs.«01_k».proof.Proof.Body.Data
public import proofs.«01_k».proof.Proof.Body.StepA
public import proofs.«01_k».proof.Proof.Body.StepB
public import proofs.«01_k».proof.Proof.Body.StepC

@[expose] public noncomputable section

set_option maxRecDepth 16384

namespace Cert.KernelIdeal.Body

open Cert.KernelIdeal.Gen Cert.Mlp
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (c : Dev nD)

/-- What the body is called with at a point: the invariant and each window's buffer, -/
def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 1600000 in
/-- The body at the first point takes the buffers from what the data says of the point before to what it says of the point. -/
theorem soundA (t : Fin cfg0.N) (h0 : t.val % 16 = 0) (h1 : ¬t.val % 16 = 15) :
    bodyPre m c t ⊢ wp frame (wpE (defs₀ (F := Ideal)) Variants.none c none) Set.univ (bodyAt0 t) (fun _ => bodyPost m c t) := by
  have hN : t.val < 16 := lt_of_lt_of_eq t.isLt (show cfg0.N = 16 from N_0)
  have c0 := ((hcond0_0 t).mpr h0)
  have c1 := (fun h => h1 ((hcond0_1 t).mp h))
  obtain rfl : t = first := Fin.ext (by show t.val = 0; omega)
  unfold bodyPre bodyPost bodyAt0
  simp only [before0_0, before0_1, before0_2, before0_3, before0_4, before0_5, before0_6, before0_7, before0_8, before0_9]
  rw [show (dats m 0 c).owesAt () (Fin.succ first) = (dats m 0 c).owesAt () (Fin.castSucc first) from rfl]
  rw [leaves_live m c 0 _ (liveAt0_0 _), leaves_live m c 1 _ (liveAt0_1 _), leaves_live m c 2 _ (liveAt0_2 _),
    leaves_live m c 3 _ (liveAt0_3 _), leaves_live m c 4 _ (liveAt0_4 _), leaves_live m c 5 _ (liveAt0_5 _),
    leaves_live m c 6 _ (liveAt0_6 _), leaves_live m c 7 _ (liveAt0_7 _), leaves_live m c 8 _ (liveAt0_8 _),
    leaves_live m c 9 _ (liveAt0_9 _), leaves_live m c 11 _ (liveAt0_11 _), leaves_live m c 13 _ (liveAt0_13 _),
    leaves_live m c 14 _ (liveAt0_14 _), leaves_live m c 15 _ (liveAt0_15 _), leaves_live m c 16 _ (liveAt0_16 _)]
  rw [Dat.leavesExact_idle (dats m 0 c) 10 _ (idleAt0_10_A _ c0 c1) (noFlush0_10_A _ c0 c1)]
  rw [leaves_live m c 12 _ (liveAt0_12_A _ c0 c1), after0_12]
  rw [after0_0, after0_1, after0_2, after0_3, after0_4, after0_5, after0_6, after0_7, after0_8, after0_9, after0_11,
    after0_13, after0_14, after0_15, after0_16]
  rw [show (dats m 0 c).Φ (Fin.succ first) = PhiS m c 1 first.isLt from rfl, PhiS_castSucc,
    show PhiS m c first.val (Nat.le_of_lt first.isLt) = Pipeline.ΦA spec0 c from rfl, PhiA0_eq]
  unfold PhiS
  iintro ⟨⟨⟨HS0, HS1⟩, Hg⟩, Howe, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (stepA c (grid0.coords first) (ms0_0 _) (hs0_0 _) (ms0_1 _) (hs0_1 _) (ms0_2 _) (hs0_2 _) (ms0_3 _) (hs0_3 _) (ms0_4 _) (hs0_4 _) (ms0_5 _) (hs0_5 _) (ms0_6 _) (hs0_6 _) (ms0_7 _) (hs0_7 _) (ms0_8 _) (hs0_8 _) (ms0_9 _) (hs0_9 _) (ms0_10 _) (hs0_10 _) (ms0_11 _) (hs0_11 _) (ms0_12 _) (hs0_12 _) (ms0_13 _) (hs0_13 _) (ms0_14 _) (hs0_14 _) (ms0_15 _) (hs0_15 _) (ms0_16 _) (hs0_16 _)
    scM0_0 (Memref.isWhole_whole _) scM0_1 (Memref.isWhole_whole _) c0 c1
    (xB m c first) (nB m c first) (gB m c first) (uB m c first) (wB m c first) (sgB m c first) (suB m c first) (sdB m c first) (iblk m c 8 first) (iblk m c 9 first) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  iintro ⟨H0, H1, H2, H3, H4, H5, H6, H7, H8, H9, H10, H11, H12, H13, H14, H15, H16, HS0, HS1⟩
  isplitl [HS0 HS1 Hg]
  · isplitl [HS0 HS1]
    · isplitl [HS0]; · iexact HS0
      iexact HS1
    iexact Hg
  isplitl [Howe]; · iexact Howe
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [H13]; · iexact H13
  isplitl [H14]; · iexact H14
  isplitl [H15]; · iexact H15
  iexact H16

set_option maxHeartbeats 1600000 in
/-- The body at the middle points takes the buffers from what the data says of the point before to what it says of the point. -/
theorem soundB (t : Fin cfg0.N) (h0 : ¬t.val % 16 = 0) (h1 : ¬t.val % 16 = 15) :
    bodyPre m c t ⊢ wp frame (wpE (defs₀ (F := Ideal)) Variants.none c none) Set.univ (bodyAt0 t) (fun _ => bodyPost m c t) := by
  have hN : t.val < 16 := lt_of_lt_of_eq t.isLt (show cfg0.N = 16 from N_0)
  have c0 := (fun h => h0 ((hcond0_0 t).mp h))
  have c1 := (fun h => h1 ((hcond0_1 t).mp h))
  obtain ⟨n, hn⟩ := t
  obtain _ | n := n
  · exact absurd (Nat.zero_mod 16) h0
  unfold bodyPre bodyPost bodyAt0
  simp only [before0_0, before0_1, before0_2, before0_3, before0_4, before0_5, before0_6, before0_7, before0_8, before0_9]
  rw [show (dats m 0 c).owesAt () (Fin.succ ⟨n + 1, hn⟩) = (dats m 0 c).owesAt () (Fin.castSucc ⟨n + 1, hn⟩) from rfl]
  rw [leaves_live m c 0 _ (liveAt0_0 _), leaves_live m c 1 _ (liveAt0_1 _), leaves_live m c 2 _ (liveAt0_2 _),
    leaves_live m c 3 _ (liveAt0_3 _), leaves_live m c 4 _ (liveAt0_4 _), leaves_live m c 5 _ (liveAt0_5 _),
    leaves_live m c 6 _ (liveAt0_6 _), leaves_live m c 7 _ (liveAt0_7 _), leaves_live m c 8 _ (liveAt0_8 _),
    leaves_live m c 9 _ (liveAt0_9 _), leaves_live m c 11 _ (liveAt0_11 _), leaves_live m c 13 _ (liveAt0_13 _),
    leaves_live m c 14 _ (liveAt0_14 _), leaves_live m c 15 _ (liveAt0_15 _), leaves_live m c 16 _ (liveAt0_16 _)]
  rw [Dat.leavesExact_idle (dats m 0 c) 10 _ (idleAt0_10_B _ c0 c1) (noFlush0_10_B _ c0 c1)]
  rw [Dat.leavesExact_idle (dats m 0 c) 12 _ (idleAt0_12_B _ c0 c1) (noFlush0_12_B _ c0 c1)]
  rw [after0_0, after0_1, after0_2, after0_3, after0_4, after0_5, after0_6, after0_7, after0_8, after0_9, after0_11,
    after0_13, after0_14, after0_15, after0_16]
  rw [show (dats m 0 c).Φ (Fin.succ ⟨n + 1, hn⟩) = PhiS m c (n + 2) hn from rfl, PhiS_castSucc]
  unfold PhiS
  iintro ⟨⟨⟨HS0, HS1⟩, Hg⟩, Howe, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (stepB c (grid0.coords ⟨n + 1, hn⟩) (ms0_0 _) (hs0_0 _) (ms0_1 _) (hs0_1 _) (ms0_2 _) (hs0_2 _) (ms0_3 _) (hs0_3 _) (ms0_4 _) (hs0_4 _) (ms0_5 _) (hs0_5 _) (ms0_6 _) (hs0_6 _) (ms0_7 _) (hs0_7 _) (ms0_8 _) (hs0_8 _) (ms0_9 _) (hs0_9 _) (ms0_10 _) (hs0_10 _) (ms0_11 _) (hs0_11 _) (ms0_12 _) (hs0_12 _) (ms0_13 _) (hs0_13 _) (ms0_14 _) (hs0_14 _) (ms0_15 _) (hs0_15 _) (ms0_16 _) (hs0_16 _)
    scM0_0 (Memref.isWhole_whole _) scM0_1 (Memref.isWhole_whole _) c0 c1
    (xB m c ⟨n + 1, hn⟩) (nB m c ⟨n + 1, hn⟩) (gB m c ⟨n + 1, hn⟩) (uB m c ⟨n + 1, hn⟩) (wB m c ⟨n + 1, hn⟩) (sgB m c ⟨n + 1, hn⟩) (suB m c ⟨n + 1, hn⟩) (sdB m c ⟨n + 1, hn⟩) (iblk m c 8 ⟨n + 1, hn⟩) (iblk m c 9 ⟨n + 1, hn⟩) (vals (actCodes m c)) (accAt m c n (Nat.lt_of_succ_lt hn)) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  iintro ⟨H0, H1, H2, H3, H4, H5, H6, H7, H8, H9, H10, H11, H12, H13, H14, H15, H16, HS0, HS1⟩
  isplitl [HS0 HS1 Hg]
  · isplitl [HS0 HS1]
    · isplitl [HS0]; · iexact HS0
      iexact HS1
    iexact Hg
  isplitl [Howe]; · iexact Howe
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexists _; iexact H12
  isplitl [H13]; · iexact H13
  isplitl [H14]; · iexact H14
  isplitl [H15]; · iexact H15
  iexact H16

set_option maxHeartbeats 1600000 in
/-- The body at the last point takes the buffers from what the data says of the point before to what it says of the point. -/
theorem soundC (t : Fin cfg0.N) (h0 : ¬t.val % 16 = 0) (h1 : t.val % 16 = 15) :
    bodyPre m c t ⊢ wp frame (wpE (defs₀ (F := Ideal)) Variants.none c none) Set.univ (bodyAt0 t) (fun _ => bodyPost m c t) := by
  have hN : t.val < 16 := lt_of_lt_of_eq t.isLt (show cfg0.N = 16 from N_0)
  have c0 := (fun h => h0 ((hcond0_0 t).mp h))
  have c1 := ((hcond0_1 t).mpr h1)
  obtain ⟨n, hn⟩ := t
  obtain _ | n := n
  · exact absurd (Nat.zero_mod 16) h0
  unfold bodyPre bodyPost bodyAt0
  simp only [before0_0, before0_1, before0_2, before0_3, before0_4, before0_5, before0_6, before0_7, before0_8, before0_9]
  rw [show (dats m 0 c).owesAt () (Fin.succ ⟨n + 1, hn⟩) = (dats m 0 c).owesAt () (Fin.castSucc ⟨n + 1, hn⟩) from rfl]
  rw [leaves_live m c 0 _ (liveAt0_0 _), leaves_live m c 1 _ (liveAt0_1 _), leaves_live m c 2 _ (liveAt0_2 _),
    leaves_live m c 3 _ (liveAt0_3 _), leaves_live m c 4 _ (liveAt0_4 _), leaves_live m c 5 _ (liveAt0_5 _),
    leaves_live m c 6 _ (liveAt0_6 _), leaves_live m c 7 _ (liveAt0_7 _), leaves_live m c 8 _ (liveAt0_8 _),
    leaves_live m c 9 _ (liveAt0_9 _), leaves_live m c 11 _ (liveAt0_11 _), leaves_live m c 13 _ (liveAt0_13 _),
    leaves_live m c 14 _ (liveAt0_14 _), leaves_live m c 15 _ (liveAt0_15 _), leaves_live m c 16 _ (liveAt0_16 _)]
  rw [leaves_live m c 10 _ (liveAt0_10_C _ c0 c1), after0_10]
  rw [leaves_12_C m c _ c0 c1, after0_12]
  simp only [before0_12 m c ⟨n + 1, hn⟩ (Nat.succ_ne_zero n)]
  rw [after0_0, after0_1, after0_2, after0_3, after0_4, after0_5, after0_6, after0_7, after0_8, after0_9, after0_11,
    after0_13, after0_14, after0_15, after0_16]
  rw [show (dats m 0 c).Φ (Fin.succ ⟨n + 1, hn⟩) = PhiS m c (n + 2) hn from rfl, PhiS_castSucc]
  unfold PhiS
  iintro ⟨⟨⟨HS0, HS1⟩, Hg⟩, Howe, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (stepC c (grid0.coords ⟨n + 1, hn⟩) (ms0_0 _) (hs0_0 _) (ms0_1 _) (hs0_1 _) (ms0_2 _) (hs0_2 _) (ms0_3 _) (hs0_3 _) (ms0_4 _) (hs0_4 _) (ms0_5 _) (hs0_5 _) (ms0_6 _) (hs0_6 _) (ms0_7 _) (hs0_7 _) (ms0_8 _) (hs0_8 _) (ms0_9 _) (hs0_9 _) (ms0_10 _) (hs0_10 _) (ms0_11 _) (hs0_11 _) (ms0_12 _) (hs0_12 _) (ms0_13 _) (hs0_13 _) (ms0_14 _) (hs0_14 _) (ms0_15 _) (hs0_15 _) (ms0_16 _) (hs0_16 _)
    scM0_0 (Memref.isWhole_whole _) scM0_1 (Memref.isWhole_whole _) c0 c1
    (xB m c ⟨n + 1, hn⟩) (nB m c ⟨n + 1, hn⟩) (gB m c ⟨n + 1, hn⟩) (uB m c ⟨n + 1, hn⟩) (wB m c ⟨n + 1, hn⟩) (sgB m c ⟨n + 1, hn⟩) (suB m c ⟨n + 1, hn⟩) (sdB m c ⟨n + 1, hn⟩) (iblk m c 8 ⟨n + 1, hn⟩) (iblk m c 9 ⟨n + 1, hn⟩) (vals (actCodes m c)) (accAt m c n (Nat.lt_of_succ_lt hn)) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  iintro ⟨H0, H1, H2, H3, H4, H5, H6, H7, H8, H9, H10, H11, H12, H13, H14, H15, H16, HS0, HS1⟩
  isplitl [HS0 HS1 Hg]
  · isplitl [HS0 HS1]
    · isplitl [HS0]; · iexact HS0
      iexact HS1
    iexact Hg
  isplitl [Howe]; · iexact Howe
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body at any point. -/
theorem sound_body (t : Fin cfg0.N) :
    bodyPre m c t ⊢ wp frame (wpE (defs₀ (F := Ideal)) Variants.none c none) Set.univ (bodyAt0 t) (fun _ => bodyPost m c t) := by
  by_cases h0 : t.val % 16 = 0
  · exact soundA m c t h0 (by omega)
  · by_cases h1 : t.val % 16 = 15
    · exact soundC m c t h0 h1
    · exact soundB m c t h0 h1

/-- The body table's row at a point's slots is the body at that point. -/
theorem defs₀_row (t : Fin cfg0.N) :
    defs₀ (F := Ideal) .tc cfg0.body (cfg0.bodyArgs t (cfg0.slots t)) = bodyAt0 t := by
  unfold defs₀; rw [Defs.onTc_tc]

/-- The body's triple, as the pipeline asks for it. -/
theorem body_obligation : BodyObligation (dats m 0 c) (defs₀ (F := Ideal)) Variants.none () Set.univ := fun t => by
  rw [bigSep_W0, bigSep_W0, defs₀_row]
  exact triple_restated (sound_body m c t) rfl .rfl fun _ => .rfl

/-- What the launch hands the region is the invariant before the first point, -/
theorem hin : Pipeline.ΦA spec0 c ⊢ (dats m 0 c).Φ 0 := .rfl

/-- and the invariant after the last point gives it back. -/
theorem hout : (dats m 0 c).Φ (Fin.last cfg0.N) ⊢ Pipeline.ΦA spec0 c := by
  rw [show (dats m 0 c).Φ (Fin.last cfg0.N) = PhiS m c 16 (by rw [show cfg0.N = 16 from N_0]) from rfl, PhiA0_eq]
  unfold PhiS
  iintro ⟨⟨HS0, HS1⟩, Hg⟩
  isplitl [HS0 HS1]
  · isplitl [HS0]
    · iexists _; iexact HS0
    iexists _; iexact HS1
  iexact Hg

set_option backward.isDefEq.respectTransparency.types false in
/-- The program runs to the end with its arrays as the data says and every semaphore counter at zero. -/
theorem run_main_quiescent : θ_run defs (onTc (τ := τ) (main (F := Ideal))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := Ideal))) (s₀ m ρ) (Pipeline.FramePost cfgs (dats m) 0 (V m)) :=
  (θ_run defs _ _).mono (fun _ h => h.1) (run_main_quiescent m ρ)

/-- The arguments end unchanged and every semaphore counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.KernelIdeal.Body
-- ==== Proof.Math.Tiles.lean ====
/-
  The functions of `Math/Grid` read tile by tile: what a block of the columns gives is the block of what the whole gives,
  and a sum taken tile after tile is the whole sum.
-/
module

public import proofs.«01_k».proof.Proof.Math.Grid

@[expose] public noncomputable section

namespace Cert.Mlp

open Idealize.ShloMosaic Idealize.ShloMosaic.Pointwise

/-- Position `p` of tile `j`, the tiles `T` wide. -/
def tile {J T N : ℕ} (hN : J * T = N) (j : Fin J) (p : Fin T) : Fin N :=
  ⟨j.val * T + p.val, by
    have hj := j.isLt; have ht := p.isLt; subst hN
    calc j.val * T + p.val < j.val * T + T := by omega
      _ = (j.val + 1) * T := by rw [Nat.add_mul, Nat.one_mul]
      _ ≤ J * T := Nat.mul_le_mul_right _ (by omega)⟩

/-- A sum over all positions, taken tile after tile from zero, is the whole sum after the last tile. -/
theorem sum_of_tiles {J T N : ℕ} (hN : J * T = N) (f : Fin N → EReal) (acc : (n : ℕ) → n < J → EReal)
    (h0 : ∀ h, acc 0 h = 0 + ∑ p, f (tile hN ⟨0, h⟩ p))
    (hs : ∀ n h, acc (n + 1) h = acc n (Nat.lt_of_succ_lt h) + ∑ p, f (tile hN ⟨n + 1, h⟩ p))
    (n : ℕ) (h : n < J) (hl : n + 1 = J) : acc n h = ∑ k, f k := by
  have key : ∀ n (h : n < J), acc n h = ∑ j : Fin (n + 1), ∑ p, f (tile hN ⟨j.val, by omega⟩ p) := by
    intro n
    induction n with
    | zero => intro h; rw [h0 h, zero_add]; simp
    | succ n ih =>
      intro h
      rw [hs n h, ih (Nat.lt_of_succ_lt h)]
      exact (Fin.sum_univ_castSucc fun j : Fin (n + 1 + 1) => ∑ p, f (tile hN ⟨j.val, by omega⟩ p)).symm
  rw [key n h, Fin.sum_univ_tiles J T hN f]
  subst hl
  rfl

section
variable {m k n N K : ℕ} (e : Fin n → Fin N)

/-- The codes of a block of columns are the block's columns of the codes. -/
theorem codes_cols (w : (Sh m n).Idx → EReal) (s : (Sh 1 n).Idx → EReal) (W : (Sh m N).Idx → EReal) (S : (Sh 1 N).Idx → EReal)
    (hw : ∀ y, w y = W (ix2 (y 0) (e (y 1)))) (hs : ∀ y, s y = S (ix2 (y 0) (e (y 1)))) (y : (Sh m n).Idx) :
    codes w s y = codes W S (ix2 (y 0) (e (y 1))) := by
  unfold codes; rw [hw, hs]; rfl

/-- The codes of a block of rows are the block's rows of the codes. -/
theorem codes_rows (w : (Sh n m).Idx → EReal) (s : (Sh 1 m).Idx → EReal) (W : (Sh N m).Idx → EReal)
    (hw : ∀ y, w y = W (ix2 (e (y 0)) (y 1))) (y : (Sh n m).Idx) :
    codes w s y = codes W s (ix2 (e (y 0)) (y 1)) := by
  unfold codes; rw [hw]; rfl

/-- A projection onto a block of columns is the block's columns of the projection. -/
theorem proj_cols (a : (Sh m k).Idx → EReal) (w : (Sh k n).Idx → EReal) (s : (Sh 1 n).Idx → EReal) (d : EReal)
    (W : (Sh k N).Idx → EReal) (S : (Sh 1 N).Idx → EReal)
    (hw : ∀ y, w y = W (ix2 (y 0) (e (y 1)))) (hs : ∀ y, s y = S (ix2 (y 0) (e (y 1)))) (y : (Sh m n).Idx) :
    proj a w s d y = proj a W S d (ix2 (y 0) (e (y 1))) := by
  unfold proj dot; simp only [codes_cols e w s W S hw hs]; rw [hs]; rfl

/-- The gated activation's columns of a block. -/
theorem gated_cols (a : (Sh m k).Idx → EReal) (wg wu : (Sh k n).Idx → EReal) (sg su : (Sh 1 n).Idx → EReal) (d : EReal)
    (Wg Wu : (Sh k N).Idx → EReal) (Sg Su : (Sh 1 N).Idx → EReal)
    (hg : ∀ y, wg y = Wg (ix2 (y 0) (e (y 1)))) (hu : ∀ y, wu y = Wu (ix2 (y 0) (e (y 1))))
    (hsg : ∀ y, sg y = Sg (ix2 (y 0) (e (y 1)))) (hsu : ∀ y, su y = Su (ix2 (y 0) (e (y 1)))) (y : (Sh m n).Idx) :
    gated a wg wu sg su d y = gated a Wg Wu Sg Su d (ix2 (y 0) (e (y 1))) := by
  unfold gated; rw [proj_cols e a wg sg d Wg Sg hg hsg, proj_cols e a wu su d Wu Su hu hsu]

/-- The eight-bit codes of a block of columns. -/
theorem codesBy_cols (a : (Sh m n).Idx → EReal) (d : EReal) (A : (Sh m N).Idx → EReal)
    (ha : ∀ y, a y = A (ix2 (y 0) (e (y 1)))) (y : (Sh m n).Idx) :
    codesBy a d y = codesBy A d (ix2 (y 0) (e (y 1))) := by
  unfold codesBy; rw [ha]

end

end Cert.Mlp
-- ==== Proof.Value.Blocks.lean ====
/-
  The blocks a grid point reads, as parts of the arrays the pipeline finds: 512 columns of each of the two wide weights and
  of their scales, 512 rows of the third, and the whole of the others.
-/
module

public import proofs.«01_k».proof.Proof.Body.Data
public import proofs.«01_k».proof.Proof.Math.Tiles

@[expose] public noncomputable section

set_option maxRecDepth 16384

namespace Cert.KernelIdeal.Value

open Cert.KernelIdeal.Gen Cert.KernelIdeal.Body Cert.Mlp
open Idealize.ShloMosaic Idealize.ShloMosaic.TcCoe Idealize.ShloMosaic.Pointwise
open Idealize.ShloMosaic.Pipeline (Dat Cfg Window)

variable (m : (ℓ : Loc nD τ sig) → Buf (Elt Ideal) ℓ) (c : Dev nD)

/-! ## The arrays -/

/-- The input, 256 rows of 2048. -/
abbrev X : (Sh 256 2048).Idx → EReal := V m c main_v0
/-- The norm's weights. -/
abbrev N : (Sh 1 2048).Idx → EReal := V m c main_v1
/-- The gate weights. -/
abbrev Wg : (Sh 2048 8192).Idx → EReal := V m c main_arg2
/-- The up weights. -/
abbrev Wu : (Sh 2048 8192).Idx → EReal := V m c main_arg3
/-- The down weights. -/
abbrev Wd : (Sh 8192 2048).Idx → EReal := V m c main_arg4
/-- The gate scales. -/
abbrev Sg : (Sh 1 8192).Idx → EReal := V m c main_v2
/-- The up scales. -/
abbrev Su : (Sh 1 8192).Idx → EReal := V m c main_v3
/-- The down scales. -/
abbrev Sd : (Sh 1 2048).Idx → EReal := V m c main_v4
/-- The first activation scale. -/
abbrev D1 : EReal := (V m c main_v5 : (Sh 1 1).Idx → EReal) (ix2 0 0)
/-- The second activation scale. -/
abbrev D2 : EReal := (V m c main_v6 : (Sh 1 1).Idx → EReal) (ix2 0 0)

/-! ## Where a block lies -/

/-- Sixteen tiles of 512 make 8192. -/
theorem tiles : cfg0.N * 512 = 8192 := by rw [show cfg0.N = 16 from N_0]

/-- Position `p` of the 512 that point `t` works on. -/
abbrev at_ (t : Fin cfg0.N) (p : Fin 512) : Fin 8192 := tile tiles t p

theorem i0 : ∀ t : Fin cfg0.N, win0_0.index t = ![0, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, t.val] := (by decide +kernel : ∀ t : Fin grid0.N, _)
theorem i3 : ∀ t : Fin cfg0.N, win0_3.index t = ![0, t.val] := (by decide +kernel : ∀ t : Fin grid0.N, _)
theorem i4 : ∀ t : Fin cfg0.N, win0_4.index t = ![t.val, 0] := (by decide +kernel : ∀ t : Fin grid0.N, _)
theorem i5 : ∀ t : Fin cfg0.N, win0_5.index t = ![0, t.val] := (by decide +kernel : ∀ t : Fin grid0.N, _)
theorem i6 : ∀ t : Fin cfg0.N, win0_6.index t = ![0, t.val] := (by decide +kernel : ∀ t : Fin grid0.N, _)
theorem i7 : ∀ t : Fin cfg0.N, win0_7.index t = ![0, 0] := (by decide +kernel : ∀ t : Fin grid0.N, _)
theorem i8 : ∀ t : Fin cfg0.N, win0_8.index t = ![0, 0] := (by decide +kernel : ∀ t : Fin grid0.N, _)
theorem i9 : ∀ t : Fin cfg0.N, win0_9.index t = ![0, 0] := (by decide +kernel : ∀ t : Fin grid0.N, _)

/-! ## The blocks -/

/-- The input's block is the input. -/
theorem xB_eq (t : Fin cfg0.N) : xB m c t = X m c := by
  funext y
  show iblk m c 0 t y = _
  blk_simp [iblk]
  refine congrArg (V m c main_v0) ?_
  blk_ext [i0 t]

/-- The norm weights' block is the norm weights. -/
theorem nB_eq (t : Fin cfg0.N) : nB m c t = N m c := by
  funext y
  show iblk m c 1 t y = _
  blk_simp [iblk]
  refine congrArg (V m c main_v1) ?_
  blk_ext [i1 t]

/-- A point's gate weights are its columns of the gate weights. -/
theorem gB_eq (t : Fin cfg0.N) (y : (Sh 2048 512).Idx) : gB m c t y = Wg m c (ix2 (y 0) (at_ t (y 1))) := by
  show iblk m c 2 t y = _
  blk_simp [iblk]
  refine congrArg (V m c main_arg2) ?_
  blk_ext [i2 t]
  rfl

/-- A point's up weights are its columns of the up weights. -/
theorem uB_eq (t : Fin cfg0.N) (y : (Sh 2048 512).Idx) : uB m c t y = Wu m c (ix2 (y 0) (at_ t (y 1))) := by
  show iblk m c 3 t y = _
  blk_simp [iblk]
  refine congrArg (V m c main_arg3) ?_
  blk_ext [i3 t]
  rfl

/-- A point's down weights are its rows of the down weights. -/
theorem wB_eq (t : Fin cfg0.N) (y : (Sh 512 2048).Idx) : wB m c t y = Wd m c (ix2 (at_ t (y 0)) (y 1)) := by
  show iblk m c 4 t y = _
  blk_simp [iblk]
  refine congrArg (V m c main_arg4) ?_
  blk_ext [i4 t]
  rfl

/-- A point's gate scales are its columns of the gate scales. -/
theorem sgB_eq (t : Fin cfg0.N) (y : (Sh 1 512).Idx) : sgB m c t y = Sg m c (ix2 (y 0) (at_ t (y 1))) := by
  show iblk m c 5 t y = _
  blk_simp [iblk]
  refine congrArg (V m c main_v2) ?_
  blk_ext [i5 t]
  rfl

/-- A point's up scales are its columns of the up scales. -/
theorem suB_eq (t : Fin cfg0.N) (y : (Sh 1 512).Idx) : suB m c t y = Su m c (ix2 (y 0) (at_ t (y 1))) := by
  show iblk m c 6 t y = _
  blk_simp [iblk]
  refine congrArg (V m c main_v3) ?_
  blk_ext [i6 t]
  rfl

/-- The down scales' block is the down scales. -/
theorem sdB_eq (t : Fin cfg0.N) : sdB m c t = Sd m c := by
  funext y
  show iblk m c 7 t y = _
  blk_simp [iblk]
  refine congrArg (V m c main_v4) ?_
  blk_ext [i7 t]

/-- The first activation scale's block is the scale. -/
theorem d1B_eq (t : Fin cfg0.N) : d1B m c t = D1 m c := by
  show iblk m c 8 t (ix2 0 0) = _
  blk_simp [iblk]
  refine congrArg (V m c main_v5) ?_
  blk_ext [i8 t]

/-- The second activation scale's block is the scale. -/
theorem d2B_eq (t : Fin cfg0.N) : d2B m c t = D2 m c := by
  show iblk m c 9 t (ix2 0 0) = _
  blk_simp [iblk]
  refine congrArg (V m c main_v6) ?_
  blk_ext [i9 t]

end Cert.KernelIdeal.Value
-- ==== Proof.Math.Results.lean ====
/-
  The seven results of the quantised gated block as functions of its ten arguments laid out as grids.
-/
module

public import proofs.«01_k».proof.Proof.Math.Grid

@[expose] public noncomputable section

namespace Cert.Mlp

open Idealize.ShloMosaic Idealize.ShloMosaic.Pointwise

/-- The arguments: input, norm weights, the three weights, their scales, the two activation scales. -/
structure Args where
  x : (Sh 256 2048).Idx → EReal
  n : (Sh 1 2048).Idx → EReal
  wg : (Sh 2048 8192).Idx → EReal
  wu : (Sh 2048 8192).Idx → EReal
  wd : (Sh 8192 2048).Idx → EReal
  sg : (Sh 1 8192).Idx → EReal
  su : (Sh 1 8192).Idx → EReal
  sd : (Sh 1 2048).Idx → EReal
  d1 : EReal
  d2 : EReal

namespace Args
variable (A : Args)

/-- The codes of the normed input. -/
def act : (Sh 256 2048).Idx → BitVec 8 := codesBy (normed A.x A.n) A.d1
/-- The gated activation. -/
def mid : (Sh 256 8192).Idx → EReal := gated (vals A.act) A.wg A.wu A.sg A.su A.d1
/-- The codes of the gated activation. -/
def midCodes : (Sh 256 8192).Idx → BitVec 8 := codesBy A.mid A.d2
/-- The codes of the gate weights. -/
def gate : (Sh 2048 8192).Idx → BitVec 8 := codes A.wg A.sg
/-- The codes of the up weights. -/
def up : (Sh 2048 8192).Idx → BitVec 8 := codes A.wu A.su
/-- The codes of the down weights. -/
def down : (Sh 8192 2048).Idx → BitVec 8 := codes A.wd A.sd
/-- The output. -/
def out : (Sh 256 2048).Idx → EReal := outp A.x (dot (vals A.midCodes) A.down) A.sd A.d2

end Args

end Cert.Mlp
-- ==== Proof.Value.Points.lean ====
/-
  What each grid point leaves, as parts of the seven results.
-/
module

public import proofs.«01_k».proof.Proof.Value.Blocks
public import proofs.«01_k».proof.Proof.Math.Results

@[expose] public noncomputable section

namespace Cert.KernelIdeal.Value

open Cert.KernelIdeal.Gen Cert.KernelIdeal.Body Cert.Mlp
open Idealize.ShloMosaic Idealize.ShloMosaic.TcCoe Idealize.ShloMosaic.Pointwise

variable (m : (ℓ : Loc nD τ sig) → Buf (Elt Ideal) ℓ) (c : Dev nD)

/-- The arguments as the pipeline finds them. -/
def args : Args where
  x := X m c
  n := N m c
  wg := Wg m c
  wu := Wu m c
  wd := Wd m c
  sg := Sg m c
  su := Su m c
  sd := Sd m c
  d1 := D1 m c
  d2 := D2 m c

/-- The first point's codes are the codes of the normed input. -/
theorem act_eq : actCodes m c = (args m c).act := by
  unfold actCodes
  rw [xB_eq, nB_eq, d1B_eq]
  rfl

/-- A point's gate codes are its columns of the gate codes. -/
theorem gate_eq (t : Fin cfg0.N) (y : (Sh 2048 512).Idx) :
    codes (gB m c t) (sgB m c t) y = (args m c).gate (ix2 (y 0) (at_ t (y 1))) :=
  codes_cols (at_ t) _ _ _ _ (gB_eq m c t) (sgB_eq m c t) y

/-- A point's up codes are its columns of the up codes. -/
theorem up_eq (t : Fin cfg0.N) (y : (Sh 2048 512).Idx) :
    codes (uB m c t) (suB m c t) y = (args m c).up (ix2 (y 0) (at_ t (y 1))) :=
  codes_cols (at_ t) _ _ _ _ (uB_eq m c t) (suB_eq m c t) y

/-- A point's down codes are its rows of the down codes. -/
theorem down_eq (t : Fin cfg0.N) (y : (Sh 512 2048).Idx) :
    codes (wB m c t) (sdB m c t) y = (args m c).down (ix2 (at_ t (y 0)) (y 1)) := by
  rw [sdB_eq]
  exact codes_rows (at_ t) _ _ _ (wB_eq m c t) y

/-- A point's gated activation is its columns of the gated activation. -/
theorem mid_eq (t : Fin cfg0.N) (y : (Sh 256 512).Idx) :
    gatedAt m c t y = (args m c).mid (ix2 (y 0) (at_ t (y 1))) := by
  unfold gatedAt
  rw [act_eq, d1B_eq]
  exact gated_cols (at_ t) _ _ _ _ _ _ _ _ _ _ (gB_eq m c t) (uB_eq m c t) (sgB_eq m c t) (suB_eq m c t) y

/-- A point's activation codes are its columns of the activation codes. -/
theorem midCodes_eq (t : Fin cfg0.N) (y : (Sh 256 512).Idx) :
    midAt m c t y = (args m c).midCodes (ix2 (y 0) (at_ t (y 1))) := by
  unfold midAt
  rw [d2B_eq]
  exact codesBy_cols (at_ t) _ _ _ (mid_eq m c t) y

/-- What a point adds to the accumulator: its 512 terms of the down product. -/
theorem part_eq (t : Fin cfg0.N) (y : (Sh 256 2048).Idx) :
    dot (vals (midAt m c t)) (codes (wB m c t) (sdB m c t)) y
      = ∑ p : Fin 512, vals (args m c).midCodes (ix2 (y 0) (at_ t p)) * val ((args m c).down (ix2 (at_ t p) (y 1))) := by
  unfold dot
  refine Finset.sum_congr rfl fun p _ => ?_
  rw [down_eq m c t]
  unfold vals
  rw [midCodes_eq m c t]
  rfl

/-- After the last point the accumulator holds the whole down product. -/
theorem acc_eq (n : ℕ) (hn : n < cfg0.N) (hl : n + 1 = cfg0.N) (y : (Sh 256 2048).Idx) :
    accAt m c n hn y = dot (vals (args m c).midCodes) (args m c).down y :=
  sum_of_tiles tiles (fun k => vals (args m c).midCodes (ix2 (y 0) k) * val ((args m c).down (ix2 k (y 1))))
    (fun n hn => accAt m c n hn y)
    (fun h => by rw [← part_eq m c ⟨0, h⟩ y]; rfl)
    (fun n h => by rw [← part_eq m c ⟨n + 1, h⟩ y]; rfl) n hn hl

end Cert.KernelIdeal.Value
-- ==== Proof.Value.Arrays.lean ====
/-
  The seven result arrays of the kernel after the run: the seven results of its arguments.
-/
module

public import proofs.«01_k».proof.Proof.Value.Points
public import proofs.«01_k».proof.Proof.Body.Sound

@[expose] public noncomputable section

set_option maxRecDepth 16384

namespace Cert.KernelIdeal.Value

open Cert.KernelIdeal.Gen Cert.KernelIdeal.Body Cert.Mlp
open Idealize.ShloMosaic Idealize.ShloMosaic.TcCoe Idealize.ShloMosaic.Pointwise
open Idealize.SL.Sem
open Idealize.ShloMosaic.Pipeline (Dat Cfg Window)

variable (m : (ℓ : Loc nD τ sig) → Buf (Elt Ideal) ℓ) (ρ : Dev nD → PrngReg) (c : Dev nD)

/-! ## Where an output block lies -/

theorem i10 : ∀ t : Fin cfg0.N, win0_10.index t = ![0, 0] := (by decide +kernel : ∀ t : Fin grid0.N, _)
theorem i11 : ∀ t : Fin cfg0.N, win0_11.index t = ![0, t.val] := (by decide +kernel : ∀ t : Fin grid0.N, _)
theorem i12 : ∀ t : Fin cfg0.N, win0_12.index t = ![0, 0] := (by decide +kernel : ∀ t : Fin grid0.N, _)
theorem i13 : ∀ t : Fin cfg0.N, win0_13.index t = ![0, t.val] := (by decide +kernel : ∀ t : Fin grid0.N, _)
theorem i14 : ∀ t : Fin cfg0.N, win0_14.index t = ![0, t.val] := (by decide +kernel : ∀ t : Fin grid0.N, _)
theorem i15 : ∀ t : Fin cfg0.N, win0_15.index t = ![0, t.val] := (by decide +kernel : ∀ t : Fin grid0.N, _)
theorem i16 : ∀ t : Fin cfg0.N, win0_16.index t = ![t.val, 0] := (by decide +kernel : ∀ t : Fin grid0.N, _)

/-- The output is written back at the last point only. -/
theorem last_10 : ∀ t : Fin cfg0.N, (cfg0.win 10).flush t = true → t.val + 1 = cfg0.N :=
  (by decide +kernel : ∀ t : Fin grid0.N, _)

/-! ## The arrays -/

/-- The first result is the output. -/
theorem final_10 : (dats m 0 c).arrAt 10 cfg0.N = (args m c).out := by
  refine (dats m 0 c).arrAt_eq_of_covers 10 _ (by decide +kernel) fun t hf y => ?_
  blk_simp
  rw [after0_10, xB_eq, sdB_eq, d2B_eq,
    show accAt m c t.val t.isLt = dot (vals (args m c).midCodes) (args m c).down from
      funext fun y => acc_eq m c t.val t.isLt (last_10 t hf) y]
  refine congrArg (args m c).out ?_
  blk_ext [i10 t]

/-- The second result is the gated activation. -/
theorem final_11 : (dats m 0 c).arrAt 11 cfg0.N = (args m c).mid := by
  refine (dats m 0 c).arrAt_eq_of_covers 11 _ (by decide +kernel) fun t hf y => ?_
  blk_simp
  rw [after0_11]
  refine (mid_eq m c t y).trans (congrArg (args m c).mid ?_)
  blk_ext [i11 t]
  rfl

/-- The third result is the codes of the normed input. -/
theorem final_12 : (dats m 0 c).arrAt 12 cfg0.N = (args m c).act := by
  refine (dats m 0 c).arrAt_eq_of_covers 12 _ (by decide +kernel) fun t hf y => ?_
  blk_simp
  rw [after0_12, act_eq]
  refine congrArg (args m c).act ?_
  blk_ext [i12 t]

/-- The fourth result is the codes of the gate weights. -/
theorem final_13 : (dats m 0 c).arrAt 13 cfg0.N = (args m c).gate := by
  refine (dats m 0 c).arrAt_eq_of_covers 13 _ (by decide +kernel) fun t hf y => ?_
  blk_simp
  rw [after0_13]
  refine (gate_eq m c t y).trans (congrArg (args m c).gate ?_)
  blk_ext [i13 t]
  rfl

/-- The fifth result is the codes of the up weights. -/
theorem final_14 : (dats m 0 c).arrAt 14 cfg0.N = (args m c).up := by
  refine (dats m 0 c).arrAt_eq_of_covers 14 _ (by decide +kernel) fun t hf y => ?_
  blk_simp
  rw [after0_14]
  refine (up_eq m c t y).trans (congrArg (args m c).up ?_)
  blk_ext [i14 t]
  rfl

/-- The sixth result is the codes of the gated activation. -/
theorem final_15 : (dats m 0 c).arrAt 15 cfg0.N = (args m c).midCodes := by
  refine (dats m 0 c).arrAt_eq_of_covers 15 _ (by decide +kernel) fun t hf y => ?_
  blk_simp
  rw [after0_15]
  refine (midCodes_eq m c t y).trans (congrArg (args m c).midCodes ?_)
  blk_ext [i15 t]
  rfl

/-- The seventh result is the codes of the down weights. -/
theorem final_16 : (dats m 0 c).arrAt 16 cfg0.N = (args m c).down := by
  refine (dats m 0 c).arrAt_eq_of_covers 16 _ (by decide +kernel) fun t hf y => ?_
  blk_simp
  rw [after0_16]
  refine (down_eq m c t y).trans (congrArg (args m c).down ?_)
  blk_ext [i16 t]
  rfl

/-! ## The run -/

/-- The kernel runs to the end with its seven result arrays holding the seven results. -/
theorem results : θ_run defs (onTc (τ := τ) (main (F := Ideal))) ⟨m, fun _ => 0, ρ⟩ (fun r => ∀ c : Dev nD,
    r.2.mem ((c.tc : Thread nD τ).loc main_v7_0) = (args m c).out
    ∧ r.2.mem ((c.tc : Thread nD τ).loc main_v7_1) = (args m c).mid
    ∧ r.2.mem ((c.tc : Thread nD τ).loc main_v7_2) = (args m c).act
    ∧ r.2.mem ((c.tc : Thread nD τ).loc main_v7_3) = (args m c).gate
    ∧ r.2.mem ((c.tc : Thread nD τ).loc main_v7_4) = (args m c).up
    ∧ r.2.mem ((c.tc : Thread nD τ).loc main_v7_5) = (args m c).midCodes
    ∧ r.2.mem ((c.tc : Thread nD τ).loc main_v7_6) = (args m c).down) :=
  (θ_run defs _ _).mono (fun r h c => ⟨((h c).1 10).trans (final_10 m c), ((h c).1 11).trans (final_11 m c),
    ((h c).1 12).trans (final_12 m c), ((h c).1 13).trans (final_13 m c), ((h c).1 14).trans (final_14 m c),
    ((h c).1 15).trans (final_15 m c), ((h c).1 16).trans (final_16 m c)⟩) (run_main m ρ)

end Cert.KernelIdeal.Value
-- ==== Proof.Value.Host.lean ====
/-
  The reshaped arguments that the kernel computes on, as the arguments given to it.
-/
module

public import proofs.«01_k».proof.Proof.Value.Arrays
public import Idealize.ShloMosaic.Lib.StableHlo.Run

@[expose] public noncomputable section

set_option maxRecDepth 16384

namespace Cert.KernelIdeal.Value

open Cert.KernelIdeal Cert.KernelIdeal.Gen Cert.Mlp
open Idealize.ShloMosaic Idealize.ShloMosaic.TcCoe Idealize.ShloMosaic.Pointwise

variable (m : (ℓ : Loc nD τ sig) → Buf (Elt Ideal) ℓ) (c : Dev nD)

/-- The input, reshaped. -/
theorem host_0 : V m c main_v0 = shapeCast S256x2048 (m ((c : Thread nD τ).loc main_arg0)) shapeCasts_S1x256x2048_S256x2048 := by
  unfold_abbrev_sides
  after_results
  rfl

/-- The norm's weights, reshaped. -/
theorem host_1 : V m c main_v1 = shapeCast S1x2048 (m ((c : Thread nD τ).loc main_arg1)) shapeCasts_S2048_S1x2048 := by
  unfold_abbrev_sides
  after_results
  rfl

/-- The gate's scales, reshaped. -/
theorem host_2 : V m c main_v2 = shapeCast S1x8192 (m ((c : Thread nD τ).loc main_arg5)) shapeCasts_S8192_S1x8192 := by
  unfold_abbrev_sides
  after_results
  rfl

/-- The up-projection's scales, reshaped. -/
theorem host_3 : V m c main_v3 = shapeCast S1x8192 (m ((c : Thread nD τ).loc main_arg6)) shapeCasts_S8192_S1x8192 := by
  unfold_abbrev_sides
  after_results
  rfl

/-- The down-projection's scales, reshaped. -/
theorem host_4 : V m c main_v4 = shapeCast S1x2048 (m ((c : Thread nD τ).loc main_arg7)) shapeCasts_S2048_S1x2048 := by
  unfold_abbrev_sides
  after_results
  rfl

/-- The first divisor, reshaped. -/
theorem host_5 : V m c main_v5 = shapeCast S1x1 (m ((c : Thread nD τ).loc main_arg8)) shapeCasts_S_S1x1 := by
  unfold_abbrev_sides
  after_results
  rfl

/-- The second divisor, reshaped. -/
theorem host_6 : V m c main_v6 = shapeCast S1x1 (m ((c : Thread nD τ).loc main_arg9)) shapeCasts_S_S1x1 := by
  unfold_abbrev_sides
  after_results
  rfl

end Cert.KernelIdeal.Value
-- ==== Proof.Math.Round.lean ====
/-
  Rounding to the nearest whole number and clipping between whole numbers commute.
-/
module

public import proofs.«01_k».proof.Proof.Math.Grid

@[expose] public noncomputable section

namespace Cert.Mlp

open Idealize.ShloMosaic Idealize.ShloMosaic.Pointwise

/-- Rounding half to even gives the whole number below or the one above it. -/
theorem round_floor (a : ℝ) : ⌊a⌋ ≤ Ideal.roundHalfEven a ∧ Ideal.roundHalfEven a ≤ ⌊a⌋ + 1 := by
  unfold Ideal.roundHalfEven
  dsimp only
  split_ifs <;> omega

/-- Rounding half to even keeps the order. -/
theorem round_mono {a b : ℝ} (h : a ≤ b) : Ideal.roundHalfEven a ≤ Ideal.roundHalfEven b := by
  rcases (Int.floor_le_floor h).lt_or_eq with hf | hf
  · have := (round_floor a).2; have := (round_floor b).1; omega
  · unfold Ideal.roundHalfEven
    dsimp only
    rw [hf]
    split_ifs <;> first | omega | (exfalso; linarith)

/-- Rounding half to even keeps whole numbers. -/
theorem round_int (z : ℤ) : Ideal.roundHalfEven (z : ℝ) = z := by
  unfold Ideal.roundHalfEven
  simp

/-- Rounding keeps the order of the extended reals. -/
theorem lift_mono : Monotone (Ideal.liftRound Ideal.roundHalfEven) := by
  intro a b h
  induction a with
  | bot => exact bot_le
  | top => rw [top_le_iff.mp h]
  | coe a =>
    induction b with
    | bot => exact absurd (le_bot_iff.mp h) (EReal.coe_ne_bot a)
    | top => exact le_top
    | coe b =>
      show ((Ideal.roundHalfEven a : ℝ) : EReal) ≤ ((Ideal.roundHalfEven b : ℝ) : EReal)
      exact EReal.coe_le_coe_iff.mpr (Int.cast_le.mpr (round_mono (EReal.coe_le_coe_iff.mp h)))

/-- Rounding keeps a word read as a number. -/
theorem lift_num {w : ℕ} (b : BitVec w) : Ideal.liftRound Ideal.roundHalfEven (num b) = num b := by
  show ((Ideal.roundHalfEven ((b.toInt : ℤ) : ℝ) : ℝ) : EReal) = _
  rw [round_int]

/-- Clipping then rounding is rounding then clipping. -/
theorem clip_round {w : ℕ} (lo hi : BitVec w) (v : EReal) :
    Ideal.liftRound Ideal.roundHalfEven (min (num hi) (max (num lo) v))
      = min (num hi) (max (num lo) (Ideal.liftRound Ideal.roundHalfEven v)) := by
  rw [lift_mono.map_min, lift_mono.map_max, lift_num, lift_num]

/-- The code with the clip after the rounding. -/
theorem code_eq (lo hi : BitVec 32) (v : EReal) : code lo hi v
    = FloatOps.fptosi (F := Ideal) (φ := .f32) 8 (min (num hi) (max (num lo) (Ideal.liftRound Ideal.roundHalfEven v))) := by
  unfold code; rw [clip_round]

end Cert.Mlp
-- ==== Proof.Ref.Payloads.lean ====
/-
  What the reference's printed vector terms compute over the extended reals, one at a time: the codes of the normed input
  and of the three weights, the gated activation, its codes and the output.
-/
module

public import proofs.«01_k».proof.Proof.Gen.ReferenceIdeal.Skeleton
public import proofs.«01_k».proof.Proof.Math.Results
public import proofs.«01_k».proof.Proof.Math.Round
public import Idealize.ShloMosaic.Lib.Pointwise

@[expose] public noncomputable section

set_option maxRecDepth 16384

namespace Cert.ReferenceIdeal.Ref

open Cert.ReferenceIdeal Cert.ReferenceIdeal.Gen Cert.Mlp
open Idealize.ShloMosaic Idealize.ShloMosaic.TcCoe Idealize.ShloMosaic.Pointwise

/-- The codes of the normed input. -/
theorem pay2_eq (d : EReal) (x : Vec Ideal S256x2048 .bf16) (g : Vec Ideal S1x2048 .f32) :
    k0_pay2 (F := Ideal) d x g = codesBy (normed x g) d := by
  funext y
  unfold codesBy code8
  rw [code_eq]
  pointwise [k0_pay2, k0_pay1]
  rfl

/-- The codes of the gate weights. -/
theorem gate_eq (w : Vec Ideal S2048x8192 .bf16) (s : Vec Ideal S1x8192 .f32) :
    k0_pay5 (F := Ideal) (k0_pay3 w s) 7#32 k0_pay4 = codes w s := by
  funext y
  unfold codes code4
  rw [code_eq]
  pointwise [k0_pay5, k0_pay3, k0_pay4]

/-- The codes of the up weights. -/
theorem up_eq (w : Vec Ideal S2048x8192 .bf16) (s : Vec Ideal S1x8192 .f32) :
    k0_pay6 (F := Ideal) w s = codes w s := by
  funext y
  unfold codes code4
  rw [code_eq]
  pointwise [k0_pay6]

/-- The codes of the down weights. -/
theorem down_eq (w : Vec Ideal S8192x2048 .bf16) (s : Vec Ideal S1x2048 .f32) :
    k0_pay11 (F := Ideal) w s = codes w s := by
  funext y
  unfold codes code4
  rw [code_eq]
  pointwise [k0_pay11]

/-- The gated activation of any codes. -/
theorem mid_eq (d : EReal) (a : Vec Ideal S256x2048 .i8) (wg wu : Vec Ideal S2048x8192 .bf16) (sg su : Vec Ideal S1x8192 .f32) :
    k0_pay7 (F := Ideal) d a (k0_pay3 wg sg) 7#32 k0_pay4 wu su sg su = gated (vals a) wg wu sg su d := by
  funext y
  pointwise [k0_pay7, gate_eq, up_eq]
  rfl

/-- The codes of the gated activation. -/
theorem midCodes_eq (d e : EReal) (a : Vec Ideal S256x2048 .i8) (wg wu : Vec Ideal S2048x8192 .bf16) (sg su : Vec Ideal S1x8192 .f32) :
    k0_pay10 (F := Ideal) (k0_pay8 d e a (k0_pay3 wg sg) 7#32 k0_pay4 wu su sg su) k0_pay9
      = codesBy (gated (vals a) wg wu sg su d) e := by
  funext y
  unfold codesBy code8
  rw [code_eq]
  pointwise [k0_pay10, k0_pay8, k0_pay9, mid_eq]

/-- The output, over the activation's codes. -/
theorem out_eq (e : EReal) (x : Vec Ideal S256x2048 .bf16) (z : FVec Ideal S256x8192 .f32) (w : Vec Ideal S8192x2048 .bf16)
    (s : Vec Ideal S1x2048 .f32) :
    k0_pay12 (F := Ideal) e (k0_pay1 x) z k0_pay9 w s s
      = outp x (dot (vals (k0_pay10 (F := Ideal) z k0_pay9)) (codes w s)) s e := by
  funext y
  pointwise [k0_pay12, k0_pay1, down_eq]
  rfl

end Cert.ReferenceIdeal.Ref
-- ==== Proof.Ref.Arrays.lean ====
/-
  The reference reads each of its arguments whole, and leaves the seven results of its arguments in its seven arrays.
-/
module

public import proofs.«01_k».proof.Proof.Gen.ReferenceIdeal.Frame
public import proofs.«01_k».proof.Proof.Ref.Payloads
public import Idealize.ShloMosaic.Lib.Pipeline.ValueKit

@[expose] public noncomputable section

set_option maxRecDepth 16384

namespace Cert.ReferenceIdeal.Ref

open Cert.ReferenceIdeal Cert.ReferenceIdeal.Gen Cert.Mlp
open Idealize.ShloMosaic Idealize.ShloMosaic.TcCoe Idealize.ShloMosaic.Pointwise
open Idealize.SL.Sem
open Idealize.ShloMosaic.Pipeline (Dat Cfg Window)

variable (m : (ℓ : Loc nD τ sig) → Buf (Elt Ideal) ℓ) (ρ : Dev nD → PrngReg) (c : Dev nD)

/-- The arguments as the reference finds them. -/
def args : Args where
  x := V m c main_v0
  n := V m c main_v1
  wg := V m c main_arg2
  wu := V m c main_arg3
  wd := V m c main_arg4
  sg := V m c main_v2
  su := V m c main_v3
  sd := V m c main_v4
  d1 := (V m c main_v5 : (Sh 1 1).Idx → EReal) (ix2 0 0)
  d2 := (V m c main_v6 : (Sh 1 1).Idx → EReal) (ix2 0 0)

/-! ## The blocks -/

/-- Every block starts at the origin of its array. -/
theorem origin : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0] :=
  (by decide +kernel : ∀ t : Fin grid0.N, _)

/-- The input is read whole. -/
theorem xB_eq (t : Fin cfg0.N) : (iblk m c 0 t : (Sh 256 2048).Idx → EReal) = (args m c).x := by
  funext y
  blk_simp [iblk]
  refine congrArg (V m c main_v0) ?_
  blk_ext [origin t]

/-- The norm weights are read whole. -/
theorem nB_eq (t : Fin cfg0.N) : (iblk m c 1 t : (Sh 1 2048).Idx → EReal) = (args m c).n := by
  funext y
  blk_simp [iblk]
  refine congrArg (V m c main_v1) ?_
  blk_ext [origin t]

/-- The gate weights are read whole. -/
theorem wgB_eq (t : Fin cfg0.N) : (iblk m c 2 t : (Sh 2048 8192).Idx → EReal) = (args m c).wg := by
  funext y
  blk_simp [iblk]
  refine congrArg (V m c main_arg2) ?_
  blk_ext [origin t]

/-- The up weights are read whole. -/
theorem wuB_eq (t : Fin cfg0.N) : (iblk m c 3 t : (Sh 2048 8192).Idx → EReal) = (args m c).wu := by
  funext y
  blk_simp [iblk]
  refine congrArg (V m c main_arg3) ?_
  blk_ext [origin t]

/-- The down weights are read whole. -/
theorem wdB_eq (t : Fin cfg0.N) : (iblk m c 4 t : (Sh 8192 2048).Idx → EReal) = (args m c).wd := by
  funext y
  blk_simp [iblk]
  refine congrArg (V m c main_arg4) ?_
  blk_ext [origin t]

/-- The gate scales are read whole. -/
theorem sgB_eq (t : Fin cfg0.N) : (iblk m c 5 t : (Sh 1 8192).Idx → EReal) = (args m c).sg := by
  funext y
  blk_simp [iblk]
  refine congrArg (V m c main_v2) ?_
  blk_ext [origin t]

/-- The up scales are read whole. -/
theorem suB_eq (t : Fin cfg0.N) : (iblk m c 6 t : (Sh 1 8192).Idx → EReal) = (args m c).su := by
  funext y
  blk_simp [iblk]
  refine congrArg (V m c main_v3) ?_
  blk_ext [origin t]

/-- The down scales are read whole. -/
theorem sdB_eq (t : Fin cfg0.N) : (iblk m c 7 t : (Sh 1 2048).Idx → EReal) = (args m c).sd := by
  funext y
  blk_simp [iblk]
  refine congrArg (V m c main_v4) ?_
  blk_ext [origin t]

/-- The first activation scale is read as it is. -/
theorem d1B_eq (t : Fin cfg0.N) (y : (Sh 1 1).Idx) : (iblk m c 8 t : (Sh 1 1).Idx → EReal) y = (args m c).d1 := by
  blk_simp [iblk]
  refine congrArg (V m c main_v5) ?_
  blk_ext [origin t]

/-- The second activation scale is read as it is. -/
theorem d2B_eq (t : Fin cfg0.N) (y : (Sh 1 1).Idx) : (iblk m c 9 t : (Sh 1 1).Idx → EReal) y = (args m c).d2 := by
  blk_simp [iblk]
  refine congrArg (V m c main_v6) ?_
  blk_ext [origin t]

/-! ## What the body leaves -/

/-- The buffer of the input reads as the input. -/
theorem x_read (t : Fin cfg0.N) :
    View.read (Elt Ideal) (View.whole cc0_stg0_0) ((hs0_0 t).unread (iblk m c 0 t)) = (args m c).x :=
  ((hs0_0 t).read_unread _).trans (xB_eq m c t)

/-- The buffer of the norm weights reads as the norm weights. -/
theorem n_read (t : Fin cfg0.N) :
    View.read (Elt Ideal) (View.whole cc0_stg1_0) ((hs0_1 t).unread (iblk m c 1 t)) = (args m c).n :=
  ((hs0_1 t).read_unread _).trans (nB_eq m c t)

/-- The buffer of the gate weights reads as the gate weights. -/
theorem wg_read (t : Fin cfg0.N) :
    View.read (Elt Ideal) (View.whole cc0_stg2_0) ((hs0_2 t).unread (iblk m c 2 t)) = (args m c).wg :=
  ((hs0_2 t).read_unread _).trans (wgB_eq m c t)

/-- The buffer of the up weights reads as the up weights. -/
theorem wu_read (t : Fin cfg0.N) :
    View.read (Elt Ideal) (View.whole cc0_stg3_0) ((hs0_3 t).unread (iblk m c 3 t)) = (args m c).wu :=
  ((hs0_3 t).read_unread _).trans (wuB_eq m c t)

/-- The buffer of the down weights reads as the down weights. -/
theorem wd_read (t : Fin cfg0.N) :
    View.read (Elt Ideal) (View.whole cc0_stg4_0) ((hs0_4 t).unread (iblk m c 4 t)) = (args m c).wd :=
  ((hs0_4 t).read_unread _).trans (wdB_eq m c t)

/-- The buffer of the gate scales reads as the gate scales. -/
theorem sg_read (t : Fin cfg0.N) :
    View.read (Elt Ideal) (View.whole cc0_stg5_0) ((hs0_5 t).unread (iblk m c 5 t)) = (args m c).sg :=
  ((hs0_5 t).read_unread _).trans (sgB_eq m c t)

/-- The buffer of the up scales reads as the up scales. -/
theorem su_read (t : Fin cfg0.N) :
    View.read (Elt Ideal) (View.whole cc0_stg6_0) ((hs0_6 t).unread (iblk m c 6 t)) = (args m c).su :=
  ((hs0_6 t).read_unread _).trans (suB_eq m c t)

/-- The buffer of the down scales reads as the down scales. -/
theorem sd_read (t : Fin cfg0.N) :
    View.read (Elt Ideal) (View.whole cc0_stg7_0) ((hs0_7 t).unread (iblk m c 7 t)) = (args m c).sd :=
  ((hs0_7 t).read_unread _).trans (sdB_eq m c t)

/-- The buffer of the first activation scale reads as the scale. -/
theorem d1_read (t : Fin cfg0.N) (y : S1x1.Idx) :
    View.read (Elt Ideal) (View.whole cc0_stg8_0) ((hs0_8 t).unread (iblk m c 8 t)) y = (args m c).d1 :=
  (congrFun ((hs0_8 t).read_unread _) y).trans (d1B_eq m c t y)

/-- The buffer of the second activation scale reads as the scale. -/
theorem d2_read (t : Fin cfg0.N) (y : S1x1.Idx) :
    View.read (Elt Ideal) (View.whole cc0_stg9_0) ((hs0_9 t).unread (iblk m c 9 t)) y = (args m c).d2 :=
  (congrFun ((hs0_9 t).read_unread _) y).trans (d2B_eq m c t y)

/-- The body leaves the output. -/
theorem left_10 (t : Fin cfg0.N) : (dats m 0 c).after 10 t = (args m c).out := by
  rw [after0_10]
  frame_out
  rw [d1_read, d2_read, x_read, n_read, wg_read, sg_read, wu_read, su_read, wd_read, sd_read]
  rw [out_eq, midCodes_eq, pay2_eq]
  rfl

/-- The body leaves the gated activation. -/
theorem left_11 (t : Fin cfg0.N) : (dats m 0 c).after 11 t = (args m c).mid := by
  rw [after0_11]
  frame_out
  rw [d1_read, x_read, n_read, wg_read, sg_read, wu_read, su_read]
  rw [mid_eq, pay2_eq]
  rfl

/-- The body leaves the codes of the normed input. -/
theorem left_12 (t : Fin cfg0.N) : (dats m 0 c).after 12 t = (args m c).act := by
  rw [after0_12]
  frame_out
  rw [d1_read, x_read, n_read]
  exact pay2_eq _ _ _

/-- The body leaves the codes of the gate weights. -/
theorem left_13 (t : Fin cfg0.N) : (dats m 0 c).after 13 t = (args m c).gate := by
  rw [after0_13]
  frame_out
  rw [wg_read, sg_read]
  exact gate_eq _ _

/-- The body leaves the codes of the up weights. -/
theorem left_14 (t : Fin cfg0.N) : (dats m 0 c).after 14 t = (args m c).up := by
  rw [after0_14]
  frame_out
  rw [wu_read, su_read]
  exact up_eq _ _

/-- The body leaves the codes of the gated activation. -/
theorem left_15 (t : Fin cfg0.N) : (dats m 0 c).after 15 t = (args m c).midCodes := by
  rw [after0_15]
  frame_out
  rw [d1_read, d2_read, x_read, n_read, wg_read, sg_read, wu_read, su_read]
  rw [midCodes_eq, pay2_eq]
  rfl

/-- The body leaves the codes of the down weights. -/
theorem left_16 (t : Fin cfg0.N) : (dats m 0 c).after 16 t = (args m c).down := by
  rw [after0_16]
  frame_out
  rw [wd_read, sd_read]
  exact down_eq _ _

/-! ## The arrays -/

/-- Result 1 of the reference is the output. -/
theorem final_10 : (dats m 0 c).arrAt 10 cfg0.N = (args m c).out := by
  refine (dats m 0 c).arrAt_eq_of_covers 10 _ (by decide +kernel) fun t hf y => ?_
  blk_simp
  rw [left_10]
  refine congrArg (args m c).out ?_
  blk_ext [origin t]

/-- Result 2 of the reference is the gated activation. -/
theorem final_11 : (dats m 0 c).arrAt 11 cfg0.N = (args m c).mid := by
  refine (dats m 0 c).arrAt_eq_of_covers 11 _ (by decide +kernel) fun t hf y => ?_
  blk_simp
  rw [left_11]
  refine congrArg (args m c).mid ?_
  blk_ext [origin t]

/-- Result 3 of the reference is the codes of the normed input. -/
theorem final_12 : (dats m 0 c).arrAt 12 cfg0.N = (args m c).act := by
  refine (dats m 0 c).arrAt_eq_of_covers 12 _ (by decide +kernel) fun t hf y => ?_
  blk_simp
  rw [left_12]
  refine congrArg (args m c).act ?_
  blk_ext [origin t]

/-- Result 4 of the reference is the codes of the gate weights. -/
theorem final_13 : (dats m 0 c).arrAt 13 cfg0.N = (args m c).gate := by
  refine (dats m 0 c).arrAt_eq_of_covers 13 _ (by decide +kernel) fun t hf y => ?_
  blk_simp
  rw [left_13]
  refine congrArg (args m c).gate ?_
  blk_ext [origin t]

/-- Result 5 of the reference is the codes of the up weights. -/
theorem final_14 : (dats m 0 c).arrAt 14 cfg0.N = (args m c).up := by
  refine (dats m 0 c).arrAt_eq_of_covers 14 _ (by decide +kernel) fun t hf y => ?_
  blk_simp
  rw [left_14]
  refine congrArg (args m c).up ?_
  blk_ext [origin t]

/-- Result 6 of the reference is the codes of the gated activation. -/
theorem final_15 : (dats m 0 c).arrAt 15 cfg0.N = (args m c).midCodes := by
  refine (dats m 0 c).arrAt_eq_of_covers 15 _ (by decide +kernel) fun t hf y => ?_
  blk_simp
  rw [left_15]
  refine congrArg (args m c).midCodes ?_
  blk_ext [origin t]

/-- Result 7 of the reference is the codes of the down weights. -/
theorem final_16 : (dats m 0 c).arrAt 16 cfg0.N = (args m c).down := by
  refine (dats m 0 c).arrAt_eq_of_covers 16 _ (by decide +kernel) fun t hf y => ?_
  blk_simp
  rw [left_16]
  refine congrArg (args m c).down ?_
  blk_ext [origin t]

/-! ## The run -/

/-- The reference runs to the end with its seven result arrays holding the seven results. -/
theorem results : θ_run defs (onTc (τ := τ) (main (F := Ideal))) ⟨m, fun _ => 0, ρ⟩ (fun r => ∀ c : Dev nD,
    r.2.mem ((c.tc : Thread nD τ).loc main_v7_0) = (args m c).out
    ∧ r.2.mem ((c.tc : Thread nD τ).loc main_v7_1) = (args m c).mid
    ∧ r.2.mem ((c.tc : Thread nD τ).loc main_v7_2) = (args m c).act
    ∧ r.2.mem ((c.tc : Thread nD τ).loc main_v7_3) = (args m c).gate
    ∧ r.2.mem ((c.tc : Thread nD τ).loc main_v7_4) = (args m c).up
    ∧ r.2.mem ((c.tc : Thread nD τ).loc main_v7_5) = (args m c).midCodes
    ∧ r.2.mem ((c.tc : Thread nD τ).loc main_v7_6) = (args m c).down) :=
  (θ_run defs _ _).mono (fun r h c => ⟨((h c).1 10).trans (final_10 m c), ((h c).1 11).trans (final_11 m c), ((h c).1 12).trans (final_12 m c), ((h c).1 13).trans (final_13 m c), ((h c).1 14).trans (final_14 m c), ((h c).1 15).trans (final_15 m c), ((h c).1 16).trans (final_16 m c)⟩) (run_main m ρ)

end Cert.ReferenceIdeal.Ref
-- ==== Proof.Ref.Host.lean ====
/-
  The reshaped arguments that the reference computes on, as the arguments given to it.
-/
module

public import proofs.«01_k».proof.Proof.Ref.Arrays
public import Idealize.ShloMosaic.Lib.StableHlo.Run

@[expose] public noncomputable section

set_option maxRecDepth 16384

namespace Cert.ReferenceIdeal.Ref

open Cert.ReferenceIdeal Cert.ReferenceIdeal.Gen Cert.Mlp
open Idealize.ShloMosaic Idealize.ShloMosaic.TcCoe Idealize.ShloMosaic.Pointwise

variable (m : (ℓ : Loc nD τ sig) → Buf (Elt Ideal) ℓ) (c : Dev nD)

/-- The input, reshaped. -/
theorem host_0 : V m c main_v0 = shapeCast S256x2048 (m ((c : Thread nD τ).loc main_arg0)) shapeCasts_S1x256x2048_S256x2048 := by
  unfold_abbrev_sides
  after_results
  rfl

/-- The norm's weights, reshaped. -/
theorem host_1 : V m c main_v1 = shapeCast S1x2048 (m ((c : Thread nD τ).loc main_arg1)) shapeCasts_S2048_S1x2048 := by
  unfold_abbrev_sides
  after_results
  rfl

/-- The gate's scales, reshaped. -/
theorem host_2 : V m c main_v2 = shapeCast S1x8192 (m ((c : Thread nD τ).loc main_arg5)) shapeCasts_S8192_S1x8192 := by
  unfold_abbrev_sides
  after_results
  rfl

/-- The up-projection's scales, reshaped. -/
theorem host_3 : V m c main_v3 = shapeCast S1x8192 (m ((c : Thread nD τ).loc main_arg6)) shapeCasts_S8192_S1x8192 := by
  unfold_abbrev_sides
  after_results
  rfl

/-- The down-projection's scales, reshaped. -/
theorem host_4 : V m c main_v4 = shapeCast S1x2048 (m ((c : Thread nD τ).loc main_arg7)) shapeCasts_S2048_S1x2048 := by
  unfold_abbrev_sides
  after_results
  rfl

/-- The first divisor, reshaped. -/
theorem host_5 : V m c main_v5 = shapeCast S1x1 (m ((c : Thread nD τ).loc main_arg8)) shapeCasts_S_S1x1 := by
  unfold_abbrev_sides
  after_results
  rfl

/-- The second divisor, reshaped. -/
theorem host_6 : V m c main_v6 = shapeCast S1x1 (m ((c : Thread nD τ).loc main_arg9)) shapeCasts_S_S1x1 := by
  unfold_abbrev_sides
  after_results
  rfl

end Cert.ReferenceIdeal.Ref
-- ==== Proof.Ref.Same.lean ====
/-
  From the same arguments the kernel and the reference compute the results of the same arrays.
-/
module

public import proofs.«01_k».proof.Proof.Value.Host
public import proofs.«01_k».proof.Proof.Ref.Host

@[expose] public noncomputable section

set_option maxRecDepth 16384

namespace Cert.Mlp

open Idealize.ShloMosaic Idealize.ShloMosaic.TcCoe Idealize.ShloMosaic.Pointwise

/-- Two argument lists with equal entries are equal. -/
theorem Args.same (A B : Args) (hx : A.x = B.x) (hn : A.n = B.n) (hwg : A.wg = B.wg) (hwu : A.wu = B.wu) (hwd : A.wd = B.wd)
    (hsg : A.sg = B.sg) (hsu : A.su = B.su) (hsd : A.sd = B.sd) (h1 : A.d1 = B.d1) (h2 : A.d2 = B.d2) : A = B := by
  cases A
  cases B
  subst hx hn hwg hwu hwd hsg hsu hsd h1 h2
  rfl

/-- The reference's arrays are the kernel's, when the arguments agree. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Ref.args m' c = Cert.KernelIdeal.Value.args m c :=
  Args.same _ _
    ((Cert.ReferenceIdeal.Ref.host_0 m' c).trans ((congrArg (fun a => shapeCast Cert.KernelIdeal.S256x2048 a Cert.KernelIdeal.Gen.shapeCasts_S1x256x2048_S256x2048) h0).trans (Cert.KernelIdeal.Value.host_0 m c).symm))
    ((Cert.ReferenceIdeal.Ref.host_1 m' c).trans ((congrArg (fun a => shapeCast Cert.KernelIdeal.S1x2048 a Cert.KernelIdeal.Gen.shapeCasts_S2048_S1x2048) h1).trans (Cert.KernelIdeal.Value.host_1 m c).symm))
    ((Cert.ReferenceIdeal.Gen.V_main_arg2 m' c).trans (h2.trans (Cert.KernelIdeal.Gen.V_main_arg2 m c).symm))
    ((Cert.ReferenceIdeal.Gen.V_main_arg3 m' c).trans (h3.trans (Cert.KernelIdeal.Gen.V_main_arg3 m c).symm))
    ((Cert.ReferenceIdeal.Gen.V_main_arg4 m' c).trans (h4.trans (Cert.KernelIdeal.Gen.V_main_arg4 m c).symm))
    ((Cert.ReferenceIdeal.Ref.host_2 m' c).trans ((congrArg (fun a => shapeCast Cert.KernelIdeal.S1x8192 a Cert.KernelIdeal.Gen.shapeCasts_S8192_S1x8192) h5).trans (Cert.KernelIdeal.Value.host_2 m c).symm))
    ((Cert.ReferenceIdeal.Ref.host_3 m' c).trans ((congrArg (fun a => shapeCast Cert.KernelIdeal.S1x8192 a Cert.KernelIdeal.Gen.shapeCasts_S8192_S1x8192) h6).trans (Cert.KernelIdeal.Value.host_3 m c).symm))
    ((Cert.ReferenceIdeal.Ref.host_4 m' c).trans ((congrArg (fun a => shapeCast Cert.KernelIdeal.S1x2048 a Cert.KernelIdeal.Gen.shapeCasts_S2048_S1x2048) h7).trans (Cert.KernelIdeal.Value.host_4 m c).symm))
    (congrFun ((Cert.ReferenceIdeal.Ref.host_5 m' c).trans ((congrArg (fun a => shapeCast Cert.KernelIdeal.S1x1 a Cert.KernelIdeal.Gen.shapeCasts_S_S1x1) h8).trans (Cert.KernelIdeal.Value.host_5 m c).symm)) (ix2 0 0))
    (congrFun ((Cert.ReferenceIdeal.Ref.host_6 m' c).trans ((congrArg (fun a => shapeCast Cert.KernelIdeal.S1x1 a Cert.KernelIdeal.Gen.shapeCasts_S_S1x1) h9).trans (Cert.KernelIdeal.Value.host_6 m c).symm)) (ix2 0 0))

end Cert.Mlp
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Base.Frame
public import proofs.«01_k».proof.Proof.Body.Sound
public import proofs.«01_k».proof.Proof.Ref.Same
public import Idealize.ShloMosaic.Adequacy
public import Idealize.ShloMosaic.Init

@[expose] public section

set_option maxRecDepth 16384

noncomputable section

namespace Cert.Proof

open Idealize.ShloMosaic Idealize.SL.Sem Cert.Kernel

/-- From the same arguments both programs end with the same seven results, their arguments unchanged. -/
theorem algebraic : Cert.algebraic_KernelIdeal_ReferenceIdeal := fun m g m' g' _ h =>
  ⟨fun c => (KernelIdeal.Value.args m c).out, fun c => (KernelIdeal.Value.args m c).mid, fun c => (KernelIdeal.Value.args m c).act,
    fun c => (KernelIdeal.Value.args m c).gate, fun c => (KernelIdeal.Value.args m c).up,
    fun c => (KernelIdeal.Value.args m c).midCodes, fun c => (KernelIdeal.Value.args m c).down,
    (θ_run KernelIdeal.defs _ _).mono
      (fun _ H c => by
        obtain ⟨h0, h1, h2, h3, h4, h5, h6⟩ := H.1 c
        exact ⟨h0, h1, h2, h3, h4, h5, h6, H.2.1 c⟩)
      (θ_run_and (KernelIdeal.Value.results m g) (KernelIdeal.Body.frame m g)),
    (θ_run ReferenceIdeal.defs _ _).mono
      (fun _ H c => by
        obtain ⟨a0, a1, a2, a3, a4, a5, a6, a7, a8, a9⟩ := h c
        have e := Cert.Mlp.args_eq m m' c a0 a1 a2 a3 a4 a5 a6 a7 a8 a9
        obtain ⟨h0, h1, h2, h3, h4, h5, h6⟩ := H.1 c
        rw [e] at h0 h1 h2 h3 h4 h5 h6
        exact ⟨h0, h1, h2, h3, h4, h5, h6, H.2.1 c⟩)
      (θ_run_and (ReferenceIdeal.Ref.results m' g') (ReferenceIdeal.Gen.frame m' g'))⟩

/-- The certificate: the three frames, the idealization and the equation between kernel and reference. -/
theorem claim : Cert.Claim := ⟨Cert.Kernel.Gen.facts, Cert.KernelIdeal.Gen.facts, Cert.ReferenceIdeal.Gen.facts,
  fun m ρ _ => Cert.Kernel.Base.frame m ρ, fun m ρ _ => Cert.KernelIdeal.Body.frame m ρ,
  fun m ρ _ => Cert.ReferenceIdeal.Gen.frame m ρ, trivial, algebraic⟩

end Cert.Proof

end
